-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S72x1024x2048 : Shape := ⟨3, ![72, 1024, 2048]⟩
abbrev S72x8192x128x2 : Shape := ⟨4, ![72, 8192, 128, 2]⟩
abbrev S72x8192x128x1 : Shape := ⟨4, ![72, 8192, 128, 1]⟩
abbrev S72x8192x128 : Shape := ⟨3, ![72, 8192, 128]⟩
abbrev S_ : Shape := ⟨0, ![]⟩

class Facts : Prop where
  shapeCasts_S72x1024x2048_S72x8192x128x2 : S72x1024x2048.ShapeCasts S72x8192x128x2
  slices_S72x8192x128x2_S72x8192x128x1_0_0_0_0 : S72x8192x128x2.Slices ![0, 0, 0, 0] S72x8192x128x1
  shapeCasts_S72x8192x128x1_S72x8192x128 : S72x8192x128x1.ShapeCasts S72x8192x128
  bitsLt_bf16_f32 : FTy.bits .bf16 < FTy.bits .f32
  slices_S72x8192x128x2_S72x8192x128x1_0_0_0_1 : S72x8192x128x2.Slices ![0, 0, 0, 1] S72x8192x128x1
  bcast_S_S72x8192x128 : S_.BroadcastsInDim S72x8192x128 (![] : Fin 0 → Fin S72x8192x128.rank)
  reducesTo_S72x8192x128_S_d0_1_2 : S72x8192x128.ReducesTo [0, 1, 2] S_
  h_S_ : 0 < S_.numel

variable [Facts]

def fn {F : FTy → Type} [FloatOps F] (main_arg0 : FVec F S72x1024x2048 .bf16) : IVec S_ 1 :=
  let main_v0 : FVec F S72x8192x128x2 .bf16 := shapeCast S72x8192x128x2 main_arg0 shapeCasts_S72x1024x2048_S72x8192x128x2
  let main_v1 : FVec F S72x8192x128x1 .bf16 := (extractStridedSlice S72x8192x128x1 ![0, 0, 0, 0] · slices_S72x8192x128x2_S72x8192x128x1_0_0_0_0) main_v0
  let main_v2 : FVec F S72x8192x128 .bf16 := shapeCast S72x8192x128 main_v1 shapeCasts_S72x8192x128x1_S72x8192x128
  let main_v3 : FVec F S72x8192x128 .f32 := (extf .f32 · bitsLt_bf16_f32) main_v2
  let main_v4 : FVec F S72x8192x128x1 .bf16 := (extractStridedSlice S72x8192x128x1 ![0, 0, 0, 1] · slices_S72x8192x128x2_S72x8192x128x1_0_0_0_1) main_v0
  let main_v5 : FVec F S72x8192x128 .bf16 := shapeCast S72x8192x128 main_v4 shapeCasts_S72x8192x128x1_S72x8192x128
  let main_v6 : FVec F S72x8192x128 .f32 := (extf .f32 · bitsLt_bf16_f32) main_v5
  let main_v7 : FVec F S72x8192x128 .f32 := mulf main_v3 main_v6
  let main_v8 : FVec F S72x8192x128 .f32 := Host.absf main_v7
  let main_cst : FVec F S_ .f32 := constant S_ .f32 0x7F7FFFFF#32
  let main_v9 : FVec F S72x8192x128 .f32 := broadcastInDim S72x8192x128 ![] bcast_S_S72x8192x128 main_cst
  let main_v10 : IVec S72x8192x128 1 := cmpf .ole main_v8 main_v9
  let main_c : IVec S_ 1 := constantI S_ 1 1#1
  let main_v11 : IVec S_ 1 := (fun x v => Host.reduce IntOp.andi x v reducesTo_S72x8192x128_S_d0_1_2 h_S_) main_v10 main_c
  main_v11
-- ==== Kernel.lean ====
abbrev S72x1024x2048 : Shape := ⟨3, ![72, 1024, 2048]⟩
abbrev S256x256 : Shape := ⟨2, ![256, 256]⟩
abbrev S72x1024x1024 : Shape := ⟨3, ![72, 1024, 1024]⟩
abbrev S72x8x1024 : Shape := ⟨3, ![72, 8, 1024]⟩
abbrev S1x1024x2048 : Shape := ⟨3, ![1, 1024, 2048]⟩
abbrev S1x1024x1024 : Shape := ⟨3, ![1, 1024, 1024]⟩
abbrev S1x8x1024 : Shape := ⟨3, ![1, 8, 1024]⟩
abbrev S1024x128 : Shape := ⟨2, ![1024, 128]⟩
abbrev S1x256x256 : Shape := ⟨3, ![1, 256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S128x128 : Shape := ⟨2, ![128, 128]⟩
abbrev S8x128 : Shape := ⟨2, ![8, 128]⟩
abbrev S1x8x128 : Shape := ⟨3, ![1, 8, 128]⟩
abbrev S72x1024x8 : Shape := ⟨3, ![72, 1024, 8]⟩

abbrev nBuf : Space → Nat
  | .hbm => 5
  | .vmem => 8
  | .smem => 0
  | _ => 0

abbrev bufTy : (tb : Table) → Fin (tcTables nBuf tb) → BufTy
  | .hbm, ⟨0, _⟩ => ⟨S72x1024x2048, .bf16⟩
  | .hbm, ⟨1, _⟩ => ⟨S256x256, .bf16⟩
  | .hbm, ⟨2, _⟩ => ⟨S72x1024x1024, .fp8e4m3⟩
  | .hbm, ⟨3, _⟩ => ⟨S72x8x1024, .f32⟩
  | .hbm, ⟨4, _⟩ => ⟨S72x1024x8, .f32⟩
  | .local _ .vmem, ⟨0, _⟩ => ⟨S1x1024x2048, .bf16⟩
  | .local _ .vmem, ⟨1, _⟩ => ⟨S1x1024x2048, .bf16⟩
  | .local _ .vmem, ⟨2, _⟩ => ⟨S256x256, .bf16⟩
  | .local _ .vmem, ⟨3, _⟩ => ⟨S1x1024x1024, .fp8e4m3⟩
  | .local _ .vmem, ⟨4, _⟩ => ⟨S1x1024x1024, .fp8e4m3⟩
  | .local _ .vmem, ⟨5, _⟩ => ⟨S1x8x1024, .f32⟩
  | .local _ .vmem, ⟨6, _⟩ => ⟨S1x8x1024, .f32⟩
  | .local _ .vmem, ⟨7, _⟩ => ⟨S1024x128, .f32⟩
  | _, _ => ⟨S72x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  v610
def k0_off1 (k0_t1 : Fin k0_t1_loop.trips) : Fin 3 → Nat :=
  let c0_209 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v612 : Index := Scalar.indexCast v611
  let c0_210 : Index := 0#32
  ![0, v612.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v630 : Index := Scalar.indexCast v611
  let c0_216 : Index := 0#32
  ![v630.toNat, 0]
def k0_off3 (k0_t1 : Fin k0_t1_loop.trips) : Fin 3 → Nat :=
  let c0_243 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v714 : Index := Scalar.indexCast v611
  let c0_244 : Index := 0#32
  ![0, v714.toNat, 0]
def k0_off4 (k0_t1 : Fin k0_t1_loop.trips) : Fin 3 → Nat :=
  let c0_245 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v718 : Index := Scalar.indexCast v611
  let c256_246 : Index := 256#32
  ![0, v718.toNat, 256]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v736 : Index := Scalar.indexCast v611
  let c1 : Index := 1#32
  ![v736.toNat, 1]
def k0_off6 (k0_t1 : Fin k0_t1_loop.trips) : Fin 3 → Nat :=
  let c0_278 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v820 : Index := Scalar.indexCast v611
  let c128_279 : Index := 128#32
  ![0, v820.toNat, 128]
def k0_off7 (k0_t1 : Fin k0_t1_loop.trips) : Fin 3 → Nat :=
  let c0_280 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v824 : Index := Scalar.indexCast v611
  let c512_281 : Index := 512#32
  ![0, v824.toNat, 512]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v842 : Index := Scalar.indexCast v611
  let c2 : Index := 2#32
  ![v842.toNat, 2]
def k0_off9 (k0_t1 : Fin k0_t1_loop.trips) : Fin 3 → Nat :=
  let c0_313 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v926 : Index := Scalar.indexCast v611
  let c256_314 : Index := 256#32
  ![0, v926.toNat, 256]
def k0_off10 (k0_t1 : Fin k0_t1_loop.trips) : Fin 3 → Nat :=
  let c0_315 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v930 : Index := Scalar.indexCast v611
  let c768_316 : Index := 768#32
  ![0, v930.toNat, 768]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v948 : Index := Scalar.indexCast v611
  let c3 : Index := 3#32
  ![v948.toNat, 3]
def k0_off12 (k0_t1 : Fin k0_t1_loop.trips) : Fin 3 → Nat :=
  let c0_348 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1032 : Index := Scalar.indexCast v611
  let c384_349 : Index := 384#32
  ![0, v1032.toNat, 384]
def k0_off13 (k0_t1 : Fin k0_t1_loop.trips) : Fin 3 → Nat :=
  let c0_350 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1036 : Index := Scalar.indexCast v611
  let c1024 : Index := 1024#32
  ![0, v1036.toNat, 1024]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1054 : Index := Scalar.indexCast v611
  let c4 : Index := 4#32
  ![v1054.toNat, 4]
def k0_off15 (k0_t1 : Fin k0_t1_loop.trips) : Fin 3 → Nat :=
  let c0_382 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1138 : Index := Scalar.indexCast v611
  let c512_383 : Index := 512#32
  ![0, v1138.toNat, 512]
def k0_off16 (k0_t1 : Fin k0_t1_loop.trips) : Fin 3 → Nat :=
  let c0_384 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1142 : Index := Scalar.indexCast v611
  let c1280 : Index := 1280#32
  ![0, v1142.toNat, 1280]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1160 : Index := Scalar.indexCast v611
  let c5 : Index := 5#32
  ![v1160.toNat, 5]
def k0_off18 (k0_t1 : Fin k0_t1_loop.trips) : Fin 3 → Nat :=
  let c0_416 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1244 : Index := Scalar.indexCast v611
  let c640_417 : Index := 640#32
  ![0, v1244.toNat, 640]
def k0_off19 (k0_t1 : Fin k0_t1_loop.trips) : Fin 3 → Nat :=
  let c0_418 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1248 : Index := Scalar.indexCast v611
  let c1536 : Index := 1536#32
  ![0, v1248.toNat, 1536]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1266 : Index := Scalar.indexCast v611
  let c6 : Index := 6#32
  ![v1266.toNat, 6]
def k0_off21 (k0_t1 : Fin k0_t1_loop.trips) : Fin 3 → Nat :=
  let c0_450 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1350 : Index := Scalar.indexCast v611
  let c768_451 : Index := 768#32
  ![0, v1350.toNat, 768]
def k0_off22 (k0_t1 : Fin k0_t1_loop.trips) : Fin 3 → Nat :=
  let c0_452 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1354 : Index := Scalar.indexCast v611
  let c1792 : Index := 1792#32
  ![0, v1354.toNat, 1792]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1372 : Index := Scalar.indexCast v611
  let c7 : Index := 7#32
  ![v1372.toNat, 7]
def k0_off24 (k0_t1 : Fin k0_t1_loop.trips) : Fin 3 → Nat :=
  let c0_484 : Index := 0#32
  let c0_i32 : BitVec 32 := 0#32
  let c1_i32 : BitVec 32 := 1#32
  let arg6 : BitVec 32 := Scf.iv c0_i32 c1_i32 k0_t1
  let c256_i32 : BitVec 32 := 256#32
  let v610 : BitVec 32 := Scalar.muli arg6 c256_i32
  let v611 : BitVec 32 := v610
  let v1456 : Index := Scalar.indexCast v611
  let c896_485 : Index := 896#32
  ![0, v1456.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S72x1024x2048 : Shape := ⟨3, ![72, 1024, 2048]⟩
abbrev S72x8192x128x2 : Shape := ⟨4, ![72, 8192, 128, 2]⟩
abbrev S72x8192x128x1 : Shape := ⟨4, ![72, 8192, 128, 1]⟩
abbrev S72x8192x128 : Shape := ⟨3, ![72, 8192, 128]⟩
abbrev S_ : Shape := ⟨0, ![]⟩
abbrev S72x8192 : Shape := ⟨2, ![72, 8192]⟩
abbrev S72x8192x1 : Shape := ⟨3, ![72, 8192, 1]⟩
abbrev S72x1024x1024 : Shape := ⟨3, ![72, 1024, 1024]⟩
abbrev S72x1024x8 : Shape := ⟨3, ![72, 1024, 8]⟩

abbrev nBuf : Space → Nat
  | .hbm => 61
  | .vmem => 0
  | .smem => 0
  | _ => 0

abbrev bufTy : (tb : Table) → Fin (tcTables nBuf tb) → BufTy
  | .hbm, ⟨0, _⟩ => ⟨S72x1024x2048, .bf16⟩
  | .hbm, ⟨1, _⟩ => ⟨S72x8192x128x2, .bf16⟩
  | .hbm, ⟨2, _⟩ => ⟨S72x8192x128x1, .bf16⟩
  | .hbm, ⟨3, _⟩ => ⟨S72x8192x128, .bf16⟩
  | .hbm, ⟨4, _⟩ => ⟨S72x8192x128, .f32⟩
  | .hbm, ⟨5, _⟩ => ⟨S72x8192x128x1, .bf16⟩
  | .hbm, ⟨6, _⟩ => ⟨S72x8192x128, .bf16⟩
  | .hbm, ⟨7, _⟩ => ⟨S72x8192x128, .f32⟩
  | .hbm, ⟨8, _⟩ => ⟨S72x8192x128, .f32⟩
  | .hbm, ⟨9, _⟩ => ⟨S72x8192x128, .f32⟩
  | .hbm, ⟨10, _⟩ => ⟨S_, .f32⟩
  | .hbm, ⟨11, _⟩ => ⟨S72x8192x128, .f32⟩
  | .hbm, ⟨12, _⟩ => ⟨S72x8192x128, .f32⟩
  | .hbm, ⟨13, _⟩ => ⟨S_, .f32⟩
  | .hbm, ⟨14, _⟩ => ⟨S72x8192x128, .f32⟩
  | .hbm, ⟨15, _⟩ => ⟨S72x8192x128, .f32⟩
  | .hbm, ⟨16, _⟩ => ⟨S72x8192x128, .f32⟩
  | .hbm, ⟨17, _⟩ => ⟨S72x8192x128, .f32⟩
  | .hbm, ⟨18, _⟩ => ⟨S72x8192x128, .f32⟩
  | .hbm, ⟨19, _⟩ => ⟨S_, .f32⟩
  | .hbm, ⟨20, _⟩ => ⟨S72x8192, .f32⟩
  | .hbm, ⟨21, _⟩ => ⟨S_, .f32⟩
  | .hbm, ⟨22, _⟩ => ⟨S72x8192, .f32⟩
  | .hbm, ⟨23, _⟩ => ⟨S72x8192, .f32⟩
  | .hbm, ⟨24, _⟩ => ⟨S72x8192, .f32⟩
  | .hbm, ⟨25, _⟩ => ⟨S_, .f32⟩
  | .hbm, ⟨26, _⟩ => ⟨S_, .f32⟩
  | .hbm, ⟨27, _⟩ => ⟨S72x8192, .f32⟩
  | .hbm, ⟨28, _⟩ => ⟨S72x8192, .f32⟩
  | .hbm, ⟨29, _⟩ => ⟨S_, .f32⟩
  | .hbm, ⟨30, _⟩ => ⟨S72x8192, .f32⟩
  | .hbm, ⟨31, _⟩ => ⟨S72x8192, .i1⟩
  | .hbm, ⟨32, _⟩ => ⟨S72x8192, .f32⟩
  | .hbm, ⟨33, _⟩ => ⟨S_, .f32⟩
  | .hbm, ⟨34, _⟩ => ⟨S72x8192, .f32⟩
  | .hbm, ⟨35, _⟩ => ⟨S72x8192, .f32⟩
  | .hbm, ⟨36, _⟩ => ⟨S_, .f32⟩
  | .hbm, ⟨37, _⟩ => ⟨S_, .f32⟩
  | .hbm, ⟨38, _⟩ => ⟨S72x8192, .f32⟩
  | .hbm, ⟨39, _⟩ => ⟨S72x8192, .f32⟩
  | .hbm, ⟨40, _⟩ => ⟨S_, .f32⟩
  | .hbm, ⟨41, _⟩ => ⟨S72x8192, .f32⟩
  | .hbm, ⟨42, _⟩ => ⟨S72x8192, .f32⟩
  | .hbm, ⟨43, _⟩ => ⟨S72x8192, .f32⟩
  | .hbm, ⟨44, _⟩ => ⟨S_, .f32⟩
  | .hbm, ⟨45, _⟩ => ⟨S72x8192, .f32⟩
  | .hbm, ⟨46, _⟩ => ⟨S72x8192, .f32⟩
  | .hbm, ⟨47, _⟩ => ⟨S72x8192x1, .f32⟩
  | .hbm, ⟨48, _⟩ => ⟨S72x8192x128, .f32⟩
  | .hbm, ⟨49, _⟩ => ⟨S72x8192x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S72x8192x128, .f32⟩
  | .hbm, ⟨54, _⟩ => ⟨S72x8192x128, .f32⟩
  | .hbm, ⟨55, _⟩ => ⟨S_, .f32⟩
  | .hbm, ⟨56, _⟩ => ⟨S72x8192x128, .f32⟩
  | .hbm, ⟨57, _⟩ => ⟨S72x8192x128, .f32⟩
  | .hbm, ⟨58, _⟩ => ⟨S72x1024x1024, .f32⟩
  | .hbm, ⟨59, _⟩ => ⟨S72x1024x1024, .fp8e4m3⟩
  | .hbm, ⟨60, _⟩ => ⟨S72x1024x8, .f32⟩
  | _, _ => ⟨S72x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_cst_10 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.FrameBlock.lean ====
/-
  The bit-level kernel, for its frame: the functions of one block, as in Block.lean, which speaks of its idealization.
-/
module

public import proofs.«01_k».proof.Proof.Gen.Kernel.Frame
public import proofs.«01_k».proof.Proof.Gen.Kernel.Skeleton
public import proofs.«01_k».proof.Proof.Gen.Kernel.Loops
public import Idealize.ShloMosaic.Lib.Pointwise
public import Idealize.ShloMosaic.Lib.Writes

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]

/-! ## The exponent of a vector of floats -/

/-- One step of the field search: bit `b` is kept unless `v` is below the float of the word `(n | b) << 23`. -/
def fstep {s : Shape} (v : FVec F s .f32) (n : IVec s 32) (b : BitVec 32) : IVec s 32 :=
  select (cmpf .olt v (bitcastToFloat .f32 (shli (ori n (broadcast s b)) (broadcast s 23#32)))) n (ori n (broadcast s b))

/-- The field search: eight bits from the top. -/
def field {s : Shape} (v : FVec F s .f32) : IVec s 32 :=
  fstep v (fstep v (fstep v (fstep v (fstep v (fstep v (fstep v (fstep v (broadcast s 0#32) 128#32) 64#32) 32#32) 16#32) 8#32) 4#32) 2#32) 1#32

/-- The exponent: 0 for the field 0, else the field less 126. -/
def expo {s : Shape} (v : FVec F s .f32) : IVec s 32 :=
  select (cmpi .eq (field v) (broadcast s 0#32)) (broadcast s 0#32) (subi (field v) (broadcast s 126#32))

/-- The float of the word `(e + 127) << 23`. -/
def pow2 {s : Shape} (e : IVec s 32) : FVec F s .f32 :=
  bitcastToFloat .f32 (shli (addi e (broadcast s 127#32)) (broadcast s 23#32))

/-! ## One group of 128 features of 256 rows, one tile of 128 rows of the scales -/

/-- The codes of one group: the kernel's `y` times `2 ^ -e`, clipped, narrowed. -/
def grpC (p : Vec F S256x256 .bf16) (w : Vec F S1x256x256 .bf16) : FVec F S1x256x128 .fp8e4m3 :=
  shapeCast S1x256x128 (truncf .fp8e4m3
    (minimumf (broadcast S256x128 (Scalar.ofBits .f32 0x43E00000#32))
      (maximumf (broadcast S256x128 (Scalar.ofBits .f32 0xC3E00000#32))
        (mulf (k0_pay2 p w) (pow2 (subi (broadcast S256x128 0#32) (expo (k0_pay5 p w)))))))
    bitsLt_fp8e4m3_f32) shapeCasts_S256x128_S1x256x128

/-- The row maxima of one group. -/
def grpA (p : Vec F S256x256 .bf16) (w : Vec F S1x256x256 .bf16) : FVec F S256x1 .f32 := k0_pay4 p w

/-- The scales of 128 rows, off the row maxima of those rows. -/
def tileS (t : Vec F S128x128 .f32) : FVec F S1x8x128 .f32 :=
  shapeCast S1x8x128 (pow2 (expo (k0_pay76 t))) shapeCasts_S8x128_S1x8x128

/-! ## One trip of the row loop -/

section Trip

variable (𝒱 : Variants) (c : Dev nD) (bd : Option 𝒱.V) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole) (v0 : Vec F S256x256 .bf16) (X : Vec F S1x1024x2048 .bf16)

/-- What trip `k` stores into the codes' block: each group's codes, the last group first. -/
theorem trip_codes (k : Fin k0_t1_loop.trips) :
    (tripL_k0_t1 (F := F) 𝒱 c bd i arg1 harg1 arg2 harg2 arg3 harg3 arg4 harg4 arg5 harg5 v0 (harg1.unread X) k).1 = [
      ⟨Rect.unit (s := S1x1024x1024) (k0_off24 k) S1x256x128.size (k0_off24_inb k), grpC v0 (View.ld X (Rect.unit (s := S1x1024x2048) (k0_off22 k) S1x256x256.size (k0_off22_inb k)))⟩,
      ⟨Rect.unit (s := S1x1024x1024) (k0_off21 k) S1x256x128.size (k0_off21_inb k), grpC v0 (View.ld X (Rect.unit (s := S1x1024x2048) (k0_off19 k) S1x256x256.size (k0_off19_inb k)))⟩,
      ⟨Rect.unit (s := S1x1024x1024) (k0_off18 k) S1x256x128.size (k0_off18_inb k), grpC v0 (View.ld X (Rect.unit (s := S1x1024x2048) (k0_off16 k) S1x256x256.size (k0_off16_inb k)))⟩,
      ⟨Rect.unit (s := S1x1024x1024) (k0_off15 k) S1x256x128.size (k0_off15_inb k), grpC v0 (View.ld X (Rect.unit (s := S1x1024x2048) (k0_off13 k) S1x256x256.size (k0_off13_inb k)))⟩,
      ⟨Rect.unit (s := S1x1024x1024) (k0_off12 k) S1x256x128.size (k0_off12_inb k), grpC v0 (View.ld X (Rect.unit (s := S1x1024x2048) (k0_off10 k) S1x256x256.size (k0_off10_inb k)))⟩,
      ⟨Rect.unit (s := S1x1024x1024) (k0_off9 k) S1x256x128.size (k0_off9_inb k), grpC v0 (View.ld X (Rect.unit (s := S1x1024x2048) (k0_off7 k) S1x256x256.size (k0_off7_inb k)))⟩,
      ⟨Rect.unit (s := S1x1024x1024) (k0_off6 k) S1x256x128.size (k0_off6_inb k), grpC v0 (View.ld X (Rect.unit (s := S1x1024x2048) (k0_off4 k) S1x256x256.size (k0_off4_inb k)))⟩,
      ⟨Rect.unit (s := S1x1024x1024) (k0_off3 k) S1x256x128.size (k0_off3_inb k), grpC v0 (View.ld X (Rect.unit (s := S1x1024x2048) (k0_off1 k) S1x256x256.size (k0_off1_inb k)))⟩] := by
  unfold tripL_k0_t1 trip_k0_t1
  dsimp only
  sl_unfold_words
  simp only [View.readAt_eq_ld, harg1.read_unread]
  rfl

/-- What trip `k` stores into the row maxima: each group's column, the last group first. -/
theorem trip_amax (k : Fin k0_t1_loop.trips) :
    (tripL_k0_t1 (F := F) 𝒱 c bd i arg1 harg1 arg2 harg2 arg3 harg3 arg4 harg4 arg5 harg5 v0 (harg1.unread X) k).2 = [
      ⟨Rect.unit (s := S1024x128) (k0_off23 k) S256x1.size (k0_off23_inb k), grpA v0 (View.ld X (Rect.unit (s := S1x1024x2048) (k0_off22 k) S1x256x256.size (k0_off22_inb k)))⟩,
      ⟨Rect.unit (s := S1024x128) (k0_off20 k) S256x1.size (k0_off20_inb k), grpA v0 (View.ld X (Rect.unit (s := S1x1024x2048) (k0_off19 k) S1x256x256.size (k0_off19_inb k)))⟩,
      ⟨Rect.unit (s := S1024x128) (k0_off17 k) S256x1.size (k0_off17_inb k), grpA v0 (View.ld X (Rect.unit (s := S1x1024x2048) (k0_off16 k) S1x256x256.size (k0_off16_inb k)))⟩,
      ⟨Rect.unit (s := S1024x128) (k0_off14 k) S256x1.size (k0_off14_inb k), grpA v0 (View.ld X (Rect.unit (s := S1x1024x2048) (k0_off13 k) S1x256x256.size (k0_off13_inb k)))⟩,
      ⟨Rect.unit (s := S1024x128) (k0_off11 k) S256x1.size (k0_off11_inb k), grpA v0 (View.ld X (Rect.unit (s := S1x1024x2048) (k0_off10 k) S1x256x256.size (k0_off10_inb k)))⟩,
      ⟨Rect.unit (s := S1024x128) (k0_off8 k) S256x1.size (k0_off8_inb k), grpA v0 (View.ld X (Rect.unit (s := S1x1024x2048) (k0_off7 k) S1x256x256.size (k0_off7_inb k)))⟩,
      ⟨Rect.unit (s := S1024x128) (k0_off5 k) S256x1.size (k0_off5_inb k), grpA v0 (View.ld X (Rect.unit (s := S1x1024x2048) (k0_off4 k) S1x256x256.size (k0_off4_inb k)))⟩,
      ⟨Rect.unit (s := S1024x128) (k0_off2 k) S256x1.size (k0_off2_inb k), grpA v0 (View.ld X (Rect.unit (s := S1x1024x2048) (k0_off1 k) S1x256x256.size (k0_off1_inb k)))⟩] := by
  unfold tripL_k0_t1 trip_k0_t1
  dsimp only
  sl_unfold_words
  simp only [View.readAt_eq_ld, harg1.read_unread]
  rfl

end Trip

end Cert.Kernel.Hand

end
-- ==== Proof.FramePieces.lean ====
/-
  The stores of the bit-level body, gathered, as in Pieces.lean.
-/
module

public import proofs.«01_k».proof.Proof.FrameBlock
public import Idealize.ShloMosaic.Lib.Pipeline.ValueKit.Tiles

@[expose] public section

set_option maxRecDepth 16384
noncomputable section

namespace Cert.Kernel.Hand

open Cert.Kernel Cert.Kernel.Gen
open Idealize.ShloMosaic Idealize.ShloMosaic.TcCoe Idealize.ShloMosaic.Tactic
open Idealize.ShloMosaic.Pointwise
open Idealize.SL.Sem

variable {F : FTy → Type} [FloatOps F]

/-- 256 rows of block `X` at group `g`: rows `256 k ..`, features `256 g ..`. -/
def win (X : Vec F S1x1024x2048 .bf16) (k g : ℕ) : Vec F S1x256x256 .bf16 := fun y =>
  X (ix3 (0 : Fin 1) (⟨(256 * k + (y 1).val) % 1024, Nat.mod_lt _ (by decide)⟩ : Fin 1024)
    (⟨(256 * g + (y 2).val) % 2048, Nat.mod_lt _ (by decide)⟩ : Fin 2048))

/-- The codes of one block of 1024 rows. -/
def cBlk (X : Vec F S1x1024x2048 .bf16) (p : Vec F S256x256 .bf16) : Vec F S1x1024x1024 .fp8e4m3 := fun j =>
  grpC p (win X ((j 1).val / 256) ((j 2).val / 128))
    (ix3 (0 : Fin 1) (⟨(j 1).val % 256, Nat.mod_lt _ (by decide)⟩ : Fin 256) (⟨(j 2).val % 128, Nat.mod_lt _ (by decide)⟩ : Fin 128))

/-- The row maxima of one block: row `r`, group `g` (its first eight columns). -/
def aBlk (X : Vec F S1x1024x2048 .bf16) (p : Vec F S256x256 .bf16) : Vec F S1024x128 .f32 := fun j =>
  grpA p (win X ((j 0).val / 256) (j 1).val) (ix2 (⟨(j 0).val % 256, Nat.mod_lt _ (by decide)⟩ : Fin 256) (0 : Fin 1))

theorem ld_win (X : Vec F S1x1024x2048 .bf16) (k g : ℕ) (hk : k < 4) (hg : g < 8) (off : Fin 3 → ℕ) (inb)
    (ho : off = ![0, 256 * k, 256 * g]) :
    View.ld X (Rect.unit (s := S1x1024x2048) off S1x256x256.size inb) = win X k g := by
  subst ho
  funext y
  have h0 : (y 0).val < 1 := (y 0).isLt
  have h1 : (y 1).val < 256 := (y 1).isLt
  have h2 : (y 2).val < 256 := (y 2).isLt
  refine View.ld_unit_apply_of X _ _ inb y _ fun a => ?_
  match a with
  | ⟨0, _⟩ => show 0 = 0 + (y 0).val; omega
  | ⟨1, _⟩ => show (256 * k + (y 1).val) % 1024 = 256 * k + (y 1).val; omega
  | ⟨2, _⟩ => show (256 * g + (y 2).val) % 2048 = 256 * g + (y 2).val; omega

theorem codes_piece (X : Vec F S1x1024x2048 .bf16) (p : Vec F S256x256 .bf16) (k g : ℕ) (hk : k < 4) (hg : g < 8)
    (off off' : Fin 3 → ℕ) (inb) (inb') (ho : off = ![0, 256 * k, 128 * g]) (ho' : off' = ![0, 256 * k, 256 * g])
    (x : (Rect.unit (s := S1x1024x1024) off S1x256x128.size inb).shape.Idx) :
    grpC p (View.ld X (Rect.unit (s := S1x1024x2048) off' S1x256x256.size inb')) x
      = cBlk X p ((Rect.unit (s := S1x1024x1024) off S1x256x128.size inb).emb x) := by
  rw [ld_win X k g hk hg off' inb' ho']
  have h0 : (x 0).val < 1 := (x 0).isLt
  have h1 : (x 1).val < 256 := (x 1).isLt
  have h2 : (x 2).val < 128 := (x 2).isLt
  have e1 : (((Rect.unit (s := S1x1024x1024) off S1x256x128.size inb).emb x) 1).val = 256 * k + (x 1).val := by
    subst ho; exact Rect.idx_unit_val _ _ inb x 1
  have e2 : (((Rect.unit (s := S1x1024x1024) off S1x256x128.size inb).emb x) 2).val = 128 * g + (x 2).val := by
    subst ho; exact Rect.idx_unit_val _ _ inb x 2
  unfold cBlk
  rw [show (((Rect.unit (s := S1x1024x1024) off S1x256x128.size inb).emb x) 1).val / 256 = k by rw [e1]; omega,
    show (((Rect.unit (s := S1x1024x1024) off S1x256x128.size inb).emb x) 2).val / 128 = g by rw [e2]; omega]
  refine congrArg (grpC p (win X k g)) (funext fun a => Fin.ext ?_)
  match a with
  | ⟨0, _⟩ => show (x 0).val = 0; omega
  | ⟨1, _⟩ => show (x 1).val = (((Rect.unit (s := S1x1024x1024) off S1x256x128.size inb).emb x) 1).val % 256; rw [e1]; omega
  | ⟨2, _⟩ => show (x 2).val = (((Rect.unit (s := S1x1024x1024) off S1x256x128.size inb).emb x) 2).val % 128; rw [e2]; omega

theorem amax_piece (X : Vec F S1x1024x2048 .bf16) (p : Vec F S256x256 .bf16) (k g : ℕ) (hk : k < 4) (hg : g < 8)
    (off : Fin 2 → ℕ) (off' : Fin 3 → ℕ) (inb) (inb') (ho : off = ![256 * k, g]) (ho' : off' = ![0, 256 * k, 256 * g])
    (x : (Rect.unit (s := S1024x128) off S256x1.size inb).shape.Idx) :
    grpA p (View.ld X (Rect.unit (s := S1x1024x2048) off' S1x256x256.size inb')) x
      = aBlk X p ((Rect.unit (s := S1024x128) off S256x1.size inb).emb x) := by
  rw [ld_win X k g hk hg off' inb' ho']
  have h0 : (x 0).val < 256 := (x 0).isLt
  have h1 : (x 1).val < 1 := (x 1).isLt
  have e0 : (((Rect.unit (s := S1024x128) off S256x1.size inb).emb x) 0).val = 256 * k + (x 0).val := by
    subst ho; exact Rect.idx_unit_val _ _ inb x 0
  have e1 : (((Rect.unit (s := S1024x128) off S256x1.size inb).emb x) 1).val = g + (x 1).val := by
    subst ho; exact Rect.idx_unit_val _ _ inb x 1
  unfold aBlk
  rw [show (((Rect.unit (s := S1024x128) off S256x1.size inb).emb x) 0).val / 256 = k by rw [e0]; omega,
    show (((Rect.unit (s := S1024x128) off S256x1.size inb).emb x) 1).val = g by rw [e1]; omega]
  refine congrArg (grpA p (win X k g)) (funext fun a => Fin.ext ?_)
  match a with
  | ⟨0, _⟩ => show (x 0).val = (((Rect.unit (s := S1024x128) off S256x1.size inb).emb x) 0).val % 256; rw [e0]; omega
  | ⟨1, _⟩ => show (x 1).val = 0; omega

theorem codes_mem (k g : ℕ) (off : Fin 3 → ℕ) (inb) (ho : off = ![0, 256 * k, 128 * g]) (y : S1x1024x1024.Idx)
    (hk : (y 1).val / 256 = k) (hg : (y 2).val / 128 = g) :
    y ∈ (Rect.unit (s := S1x1024x1024) off S1x256x128.size inb).set := by
  subst ho
  have h0 : (y 0).val < 1 := (y 0).isLt
  rw [Rect.mem_set_unit]
  intro a
  match a with
  | ⟨0, _⟩ => show 0 ≤ (y 0).val ∧ (y 0).val < 0 + 1; omega
  | ⟨1, _⟩ => show 256 * k ≤ (y 1).val ∧ (y 1).val < 256 * k + 256; omega
  | ⟨2, _⟩ => show 128 * g ≤ (y 2).val ∧ (y 2).val < 128 * g + 128; omega

theorem amax_mem (k g : ℕ) (off : Fin 2 → ℕ) (inb) (ho : off = ![256 * k, g]) (y : S1024x128.Idx)
    (hk : (y 0).val / 256 = k) (hg : (y 1).val = g) :
    y ∈ (Rect.unit (s := S1024x128) off S256x1.size inb).set := by
  subst ho
  rw [Rect.mem_set_unit]
  intro a
  match a with
  | ⟨0, _⟩ => show 256 * k ≤ (y 0).val ∧ (y 0).val < 256 * k + 256; omega
  | ⟨1, _⟩ => show g ≤ (y 1).val ∧ (y 1).val < g + 1; omega

theorem trips_eq : k0_t1_loop.trips = 4 := by decide +kernel

section Trip

variable (𝒱 : Variants) (c : Dev nD) (bd : Option 𝒱.V) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole) (v0 : Vec F S256x256 .bf16) (X : Vec F S1x1024x2048 .bf16)

/-- Every store of trip `k` into the codes' block is a part of `cBlk`, and together they cover the trip's rows. -/
theorem trip_codes_ok (k : Fin k0_t1_loop.trips) :
    (∀ pc ∈ (tripL_k0_t1 (F := F) 𝒱 c bd i arg1 harg1 arg2 harg2 arg3 harg3 arg4 harg4 arg5 harg5 v0 (harg1.unread X) k).1, ∀ x, pc.2 x = cBlk X v0 (pc.1.emb x))
    ∧ ∀ y : S1x1024x1024.Idx, (y 1).val / 256 = k.val → ∃ pc ∈ (tripL_k0_t1 (F := F) 𝒱 c bd i arg1 harg1 arg2 harg2 arg3 harg3 arg4 harg4 arg5 harg5 v0 (harg1.unread X) k).1, y ∈ pc.1.set := by
  have hk : k.val < 4 := lt_of_lt_of_eq k.isLt trips_eq
  rw [trip_codes]
  refine ⟨?_, fun y hy => ?_⟩
  · simp only [List.forall_mem_cons, List.not_mem_nil, false_implies, implies_true, and_true]
    exact ⟨codes_piece X v0 k 7 hk (by decide) _ _ _ _ (k0_off24_eq k) (k0_off22_eq k), codes_piece X v0 k 6 hk (by decide) _ _ _ _ (k0_off21_eq k) (k0_off19_eq k), codes_piece X v0 k 5 hk (by decide) _ _ _ _ (k0_off18_eq k) (k0_off16_eq k), codes_piece X v0 k 4 hk (by decide) _ _ _ _ (k0_off15_eq k) (k0_off13_eq k), codes_piece X v0 k 3 hk (by decide) _ _ _ _ (k0_off12_eq k) (k0_off10_eq k), codes_piece X v0 k 2 hk (by decide) _ _ _ _ (k0_off9_eq k) (k0_off7_eq k), codes_piece X v0 k 1 hk (by decide) _ _ _ _ (k0_off6_eq k) (k0_off4_eq k), codes_piece X v0 k 0 hk (by decide) _ _ _ _ (k0_off3_eq k) (k0_off1_eq k)⟩
  · have h2 : (y 2).val < 1024 := (y 2).isLt
    simp only [List.exists_mem_cons_iff, List.not_mem_nil, false_and, exists_false, or_false]
    have hg : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
    rcases hg with hg | hg | hg | hg | hg | hg | hg | hg
    · exact Or.inl (codes_mem k 7 _ _ (k0_off24_eq k) y hy hg)
    · exact Or.inr (Or.inl (codes_mem k 6 _ _ (k0_off21_eq k) y hy hg))
    · exact Or.inr (Or.inr (Or.inl (codes_mem k 5 _ _ (k0_off18_eq k) y hy hg)))
    · exact Or.inr (Or.inr (Or.inr (Or.inl (codes_mem k 4 _ _ (k0_off15_eq k) y hy hg))))
    · exact Or.inr (Or.inr (Or.inr (Or.inr (Or.inl (codes_mem k 3 _ _ (k0_off12_eq k) y hy hg)))))
    · exact Or.inr (Or.inr (Or.inr (Or.inr (Or.inr (Or.inl (codes_mem k 2 _ _ (k0_off9_eq k) y hy hg))))))
    · exact Or.inr (Or.inr (Or.inr (Or.inr (Or.inr (Or.inr (Or.inl (codes_mem k 1 _ _ (k0_off6_eq k) y hy hg)))))))
    · exact Or.inr (Or.inr (Or.inr (Or.inr (Or.inr (Or.inr (Or.inr ((codes_mem k 0 _ _ (k0_off3_eq k) y hy hg))))))))

/-- Every store of trip `k` into the row maxima is a part of `aBlk`, and together they cover the trip's rows of the
    first eight columns. -/
theorem trip_amax_ok (k : Fin k0_t1_loop.trips) :
    (∀ pc ∈ (tripL_k0_t1 (F := F) 𝒱 c bd i arg1 harg1 arg2 harg2 arg3 harg3 arg4 harg4 arg5 harg5 v0 (harg1.unread X) k).2, ∀ x, pc.2 x = aBlk X v0 (pc.1.emb x))
    ∧ ∀ y : S1024x128.Idx, (y 0).val / 256 = k.val → (y 1).val < 8 → ∃ pc ∈ (tripL_k0_t1 (F := F) 𝒱 c bd i arg1 harg1 arg2 harg2 arg3 harg3 arg4 harg4 arg5 harg5 v0 (harg1.unread X) k).2, y ∈ pc.1.set := by
  have hk : k.val < 4 := lt_of_lt_of_eq k.isLt trips_eq
  rw [trip_amax]
  refine ⟨?_, fun y hy h2 => ?_⟩
  · simp only [List.forall_mem_cons, List.not_mem_nil, false_implies, implies_true, and_true]
    exact ⟨amax_piece X v0 k 7 hk (by decide) _ _ _ _ (k0_off23_eq k) (k0_off22_eq k), amax_piece X v0 k 6 hk (by decide) _ _ _ _ (k0_off20_eq k) (k0_off19_eq k), amax_piece X v0 k 5 hk (by decide) _ _ _ _ (k0_off17_eq k) (k0_off16_eq k), amax_piece X v0 k 4 hk (by decide) _ _ _ _ (k0_off14_eq k) (k0_off13_eq k), amax_piece X v0 k 3 hk (by decide) _ _ _ _ (k0_off11_eq k) (k0_off10_eq k), amax_piece X v0 k 2 hk (by decide) _ _ _ _ (k0_off8_eq k) (k0_off7_eq k), amax_piece X v0 k 1 hk (by decide) _ _ _ _ (k0_off5_eq k) (k0_off4_eq k), amax_piece X v0 k 0 hk (by decide) _ _ _ _ (k0_off2_eq k) (k0_off1_eq k)⟩
  · simp only [List.exists_mem_cons_iff, List.not_mem_nil, false_and, exists_false, or_false]
    have hg : (y 1).val = 7 ∨ (y 1).val = 6 ∨ (y 1).val = 5 ∨ (y 1).val = 4 ∨ (y 1).val = 3 ∨ (y 1).val = 2 ∨ (y 1).val = 1 ∨ (y 1).val = 0 := by omega
    rcases hg with hg | hg | hg | hg | hg | hg | hg | hg
    · exact Or.inl (amax_mem k 7 _ _ (k0_off23_eq k) y hy hg)
    · exact Or.inr (Or.inl (amax_mem k 6 _ _ (k0_off20_eq k) y hy hg))
    · exact Or.inr (Or.inr (Or.inl (amax_mem k 5 _ _ (k0_off17_eq k) y hy hg)))
    · exact Or.inr (Or.inr (Or.inr (Or.inl (amax_mem k 4 _ _ (k0_off14_eq k) y hy hg))))
    · exact Or.inr (Or.inr (Or.inr (Or.inr (Or.inl (amax_mem k 3 _ _ (k0_off11_eq k) y hy hg)))))
    · exact Or.inr (Or.inr (Or.inr (Or.inr (Or.inr (Or.inl (amax_mem k 2 _ _ (k0_off8_eq k) y hy hg))))))
    · exact Or.inr (Or.inr (Or.inr (Or.inr (Or.inr (Or.inr (Or.inl (amax_mem k 1 _ _ (k0_off5_eq k) y hy hg)))))))
    · exact Or.inr (Or.inr (Or.inr (Or.inr (Or.inr (Or.inr (Or.inr ((amax_mem k 0 _ _ (k0_off2_eq k) y hy hg))))))))

/-- After `n` trips: every store is a part of `cBlk` and `aBlk`, and the first `256 n` rows are covered. -/
theorem pb_ok : ∀ n : ℕ, n ≤ 4 →
    (∀ pc ∈ (pb_k0_t1 (F := F) 𝒱 c bd i arg1 harg1 arg2 harg2 arg3 harg3 arg4 harg4 arg5 harg5 v0 (harg1.unread X) n).1, ∀ x, pc.2 x = cBlk X v0 (pc.1.emb x))
    ∧ (∀ y : S1x1024x1024.Idx, (y 1).val < 256 * n → ∃ pc ∈ (pb_k0_t1 (F := F) 𝒱 c bd i arg1 harg1 arg2 harg2 arg3 harg3 arg4 harg4 arg5 harg5 v0 (harg1.unread X) n).1, y ∈ pc.1.set)
    ∧ (∀ pc ∈ (pb_k0_t1 (F := F) 𝒱 c bd i arg1 harg1 arg2 harg2 arg3 harg3 arg4 harg4 arg5 harg5 v0 (harg1.unread X) n).2, ∀ x, pc.2 x = aBlk X v0 (pc.1.emb x))
    ∧ (∀ y : S1024x128.Idx, (y 0).val < 256 * n → (y 1).val < 8 → ∃ pc ∈ (pb_k0_t1 (F := F) 𝒱 c bd i arg1 harg1 arg2 harg2 arg3 harg3 arg4 harg4 arg5 harg5 v0 (harg1.unread X) n).2, y ∈ pc.1.set)
  | 0, _ => ⟨fun pc h => absurd h List.not_mem_nil, fun y h => by omega, fun pc h => absurd h List.not_mem_nil, fun y h => by omega⟩
  | n + 1, hn => by
    obtain ⟨a1, a2, a3, a4⟩ := pb_ok n (by omega)
    have hn' : n < k0_t1_loop.trips := by rw [trips_eq]; omega
    obtain ⟨b1, b2⟩ := trip_codes_ok 𝒱 c bd i arg1 harg1 arg2 harg2 arg3 harg3 arg4 harg4 arg5 harg5 v0 X ⟨n, hn'⟩
    obtain ⟨b3, b4⟩ := trip_amax_ok 𝒱 c bd i arg1 harg1 arg2 harg2 arg3 harg3 arg4 harg4 arg5 harg5 v0 X ⟨n, hn'⟩
    rw [show n + 1 = (⟨n, hn'⟩ : Fin k0_t1_loop.trips).val + 1 from rfl, pb_k0_t1_succ]
    refine ⟨fun pc h => ?_, fun y h => ?_, fun pc h => ?_, fun y h h' => ?_⟩
    · rcases List.mem_append.mp h with h | h
      · exact b1 pc h
      · exact a1 pc h
    · by_cases hy : (y 1).val < 256 * n
      · obtain ⟨pc, h1, h2⟩ := a2 y hy
        exact ⟨pc, List.mem_append_right _ h1, h2⟩
      · obtain ⟨pc, h1, h2⟩ := b2 y (by dsimp only at h ⊢; omega)
        exact ⟨pc, List.mem_append_left _ h1, h2⟩
    · rcases List.mem_append.mp h with h | h
      · exact b3 pc h
      · exact a3 pc h
    · by_cases hy : (y 0).val < 256 * n
      · obtain ⟨pc, h1, h2⟩ := a4 y hy h'
        exact ⟨pc, List.mem_append_right _ h1, h2⟩
      · obtain ⟨pc, h1, h2⟩ := b4 y (by dsimp only at h ⊢; omega) h'
        exact ⟨pc, List.mem_append_left _ h1, h2⟩

/-- After the loop the codes' block reads `cBlk`. -/
theorem read_codes (f : arg3.view.ty.Contents (Elt F)) :
    arg3.view.read (Elt F) (arg3.view.writes (Elt F) f (pb_k0_t1 (F := F) 𝒱 c bd i arg1 harg1 arg2 harg2 arg3 harg3 arg4 harg4 arg5 harg5 v0 (harg1.unread X) k0_t1_loop.trips).1) = cBlk X v0 := by
  funext y
  obtain ⟨a1, a2, -, -⟩ := pb_ok 𝒱 c bd i arg1 harg1 arg2 harg2 arg3 harg3 arg4 harg4 arg5 harg5 v0 X k0_t1_loop.trips (le_of_eq trips_eq)
  have h1 : (y 1).val < 1024 := (y 1).isLt
  exact View.read_writes_apply_of_pieces _ _ (cBlk X v0) _ a1 y (a2 y (by rw [trips_eq]; omega))

/-- After the loop the row maxima's first eight columns read `aBlk`. -/
theorem read_amax (f : arg5.view.ty.Contents (Elt F)) (y : S1024x128.Idx) (hy : (y 1).val < 8) :
    arg5.view.read (Elt F) (arg5.view.writes (Elt F) f (pb_k0_t1 (F := F) 𝒱 c bd i arg1 harg1 arg2 harg2 arg3 harg3 arg4 harg4 arg5 harg5 v0 (harg1.unread X) k0_t1_loop.trips).2) y = aBlk X v0 y := by
  obtain ⟨-, -, a3, a4⟩ := pb_ok 𝒱 c bd i arg1 harg1 arg2 harg2 arg3 harg3 arg4 harg4 arg5 harg5 v0 X k0_t1_loop.trips (le_of_eq trips_eq)
  have h0 : (y 0).val < 1024 := (y 0).isLt
  exact View.read_writes_apply_of_pieces _ _ (aBlk X v0) _ a3 y (a4 y (by rw [trips_eq]; omega) hy)

end Trip

end Cert.Kernel.Hand

end
-- ==== Proof.FrameRun.lean ====
/-
  The bit-level body's run on one block, as in Run.lean.
-/
module

public import proofs.«01_k».proof.Proof.FramePieces
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem hz2 : (![0, 0] : Fin 2 → ℕ) = fun _ => 0 := funext fun a => by fin_cases a <;> rfl

/-- Row maxima of 128 rows: rows `128 r ..` of the first 128 columns. -/
def awin (A : Vec F S1024x128 .f32) (r : ℕ) : Vec F S128x128 .f32 := fun y =>
  A (ix2 (⟨(128 * r + (y 0).val) % 1024, Nat.mod_lt _ (by decide)⟩ : Fin 1024) (y 1))

/-- The scales of one block of 1024 rows: group, row. -/
def sBlk (X : Vec F S1x1024x2048 .bf16) (p : Vec F S256x256 .bf16) : Vec F S1x8x1024 .f32 := fun j =>
  tileS (awin (aBlk X p) ((j 2).val / 128))
    (ix3 (0 : Fin 1) (j 1) (⟨(j 2).val % 128, Nat.mod_lt _ (by decide)⟩ : Fin 128))

/-- The scales of a tile read its first eight columns only. -/
theorem tileS_congr (t t' : Vec F S128x128 .f32) (h : ∀ (l : Fin 128) (g : Fin 128), g.val < 8 → t (ix2 l g) = t' (ix2 l g)) :
    tileS t = tileS t' := by
  have e : k0_pay76 t = k0_pay76 t' := by
    funext j
    have hj : (j 0).val < 8 := (j 0).isLt
    pointwise [k0_pay76]
    exact congrArg (fun z => FloatOps.mulf z (FloatOps.ofBits FTy.f32 0x3B124925#32)) (h (j 1) ⟨(j 0).val, by omega⟩ hj)
  unfold tileS
  rw [e]

theorem scales_piece (X : Vec F S1x1024x2048 .bf16) (p : Vec F S256x256 .bf16) (R : Vec F S1024x128 .f32)
    (hR : ∀ y : S1024x128.Idx, (y 1).val < 8 → R y = aBlk X p y) (r : ℕ) (hr : r < 8) (off : Fin 3 → ℕ) (off' : Fin 2 → ℕ) (inb) (inb')
    (ho : off = ![0, 0, 128 * r]) (ho' : off' = ![128 * r, 0])
    (x : (Rect.unit (s := S1x8x1024) off S1x8x128.size inb).shape.Idx) :
    tileS (View.ld R (Rect.unit (s := S1024x128) off' S128x128.size inb')) x
      = sBlk X p ((Rect.unit (s := S1x8x1024) off S1x8x128.size inb).emb x) := by
  have h0 : (x 0).val < 1 := (x 0).isLt
  have h2 : (x 2).val < 128 := (x 2).isLt
  have e1 : (((Rect.unit (s := S1x8x1024) off S1x8x128.size inb).emb x) 1).val = 0 + (x 1).val := by
    subst ho; exact Rect.idx_unit_val _ _ inb x 1
  have e2 : (((Rect.unit (s := S1x8x1024) off S1x8x128.size inb).emb x) 2).val = 128 * r + (x 2).val := by
    subst ho; exact Rect.idx_unit_val _ _ inb x 2
  unfold sBlk
  rw [show (((Rect.unit (s := S1x8x1024) off S1x8x128.size inb).emb x) 2).val / 128 = r by rw [e2]; omega]
  rw [tileS_congr (View.ld R (Rect.unit (s := S1024x128) off' S128x128.size inb')) (awin (aBlk X p) r) (fun l g hg => by
    unfold awin
    rw [← hR _ (by exact hg)]
    refine View.ld_unit_apply_of R _ _ inb' _ _ fun a => ?_
    have hl := l.isLt
    subst ho'
    match a with
    | ⟨0, _⟩ => show (128 * r + l.val) % 1024 = 128 * r + l.val; omega
    | ⟨1, _⟩ => show g.val = 0 + g.val; omega)]
  refine congrArg (tileS (awin (aBlk X p) r)) (funext fun a => Fin.ext ?_)
  match a with
  | ⟨0, _⟩ => show (x 0).val = 0; omega
  | ⟨1, _⟩ => show (x 1).val = (((Rect.unit (s := S1x8x1024) off S1x8x128.size inb).emb x) 1).val; rw [e1]; omega
  | ⟨2, _⟩ => show (x 2).val = (((Rect.unit (s := S1x8x1024) off S1x8x128.size inb).emb x) 2).val % 128; rw [e2]; omega

theorem scales_mem (r : ℕ) (off : Fin 3 → ℕ) (inb) (ho : off = ![0, 0, 128 * r]) (y : S1x8x1024.Idx)
    (hr : (y 2).val / 128 = r) : y ∈ (Rect.unit (s := S1x8x1024) off S1x8x128.size inb).set := by
  subst ho
  have h0 : (y 0).val < 1 := (y 0).isLt
  have h1 : (y 1).val < 8 := (y 1).isLt
  rw [Rect.mem_set_unit]
  intro a
  match a with
  | ⟨0, _⟩ => show 0 ≤ (y 0).val ∧ (y 0).val < 0 + 1; omega
  | ⟨1, _⟩ => show 0 ≤ (y 1).val ∧ (y 1).val < 0 + 8; omega
  | ⟨2, _⟩ => show 128 * r ≤ (y 2).val ∧ (y 2).val < 128 * r + 128; omega

/-- The eight stores of the scales, off row maxima whose first eight columns are `aBlk`'s, leave `sBlk`. -/
theorem read_scales (arg4 : Memref sig .tc .vmem S1x8x1024 .f32) (f : arg4.view.ty.Contents (Elt F))
    (X : Vec F S1x1024x2048 .bf16) (p : Vec F S256x256 .bf16) (R : Vec F S1024x128 .f32)
    (hR : ∀ y : S1024x128.Idx, (y 1).val < 8 → R y = aBlk X p y) :
    arg4.view.read (Elt F) (arg4.view.writes (Elt F) f [
        ⟨Rect.unit (s := S1x8x1024) ![0, 0, 896] S1x8x128.size inb_S1x8x1024_S1x8x128_0_0_896, tileS (View.ld R (Rect.unit (s := S1024x128) ![896, 0] S128x128.size inb_S1024x128_S128x128_896_0))⟩,
        ⟨Rect.unit (s := S1x8x1024) ![0, 0, 768] S1x8x128.size inb_S1x8x1024_S1x8x128_0_0_768, tileS (View.ld R (Rect.unit (s := S1024x128) ![768, 0] S128x128.size inb_S1024x128_S128x128_768_0))⟩,
        ⟨Rect.unit (s := S1x8x1024) ![0, 0, 640] S1x8x128.size inb_S1x8x1024_S1x8x128_0_0_640, tileS (View.ld R (Rect.unit (s := S1024x128) ![640, 0] S128x128.size inb_S1024x128_S128x128_640_0))⟩,
        ⟨Rect.unit (s := S1x8x1024) ![0, 0, 512] S1x8x128.size inb_S1x8x1024_S1x8x128_0_0_512, tileS (View.ld R (Rect.unit (s := S1024x128) ![512, 0] S128x128.size inb_S1024x128_S128x128_512_0))⟩,
        ⟨Rect.unit (s := S1x8x1024) ![0, 0, 384] S1x8x128.size inb_S1x8x1024_S1x8x128_0_0_384, tileS (View.ld R (Rect.unit (s := S1024x128) ![384, 0] S128x128.size inb_S1024x128_S128x128_384_0))⟩,
        ⟨Rect.unit (s := S1x8x1024) ![0, 0, 256] S1x8x128.size inb_S1x8x1024_S1x8x128_0_0_256, tileS (View.ld R (Rect.unit (s := S1024x128) ![256, 0] S128x128.size inb_S1024x128_S128x128_256_0))⟩,
        ⟨Rect.unit (s := S1x8x1024) ![0, 0, 128] S1x8x128.size inb_S1x8x1024_S1x8x128_0_0_128, tileS (View.ld R (Rect.unit (s := S1024x128) ![128, 0] S128x128.size inb_S1024x128_S128x128_128_0))⟩,
        ⟨Rect.unit (s := S1x8x1024) ![0, 0, 0] S1x8x128.size inb_S1x8x1024_S1x8x128_0_0_0, tileS (View.ld R (Rect.unit (s := S1024x128) ![0, 0] S128x128.size inb_S1024x128_S128x128_0_0))⟩]) = sBlk X p := by
  funext y
  have h2 : (y 2).val < 1024 := (y 2).isLt
  refine View.read_writes_apply_of_pieces _ _ (sBlk X p) _ ?_ y ?_
  · simp only [List.forall_mem_cons, List.not_mem_nil, false_implies, implies_true, and_true]
    exact ⟨scales_piece X p R hR 7 (by decide) _ _ _ _ rfl rfl, scales_piece X p R hR 6 (by decide) _ _ _ _ rfl rfl, scales_piece X p R hR 5 (by decide) _ _ _ _ rfl rfl, scales_piece X p R hR 4 (by decide) _ _ _ _ rfl rfl, scales_piece X p R hR 3 (by decide) _ _ _ _ rfl rfl, scales_piece X p R hR 2 (by decide) _ _ _ _ rfl rfl, scales_piece X p R hR 1 (by decide) _ _ _ _ rfl rfl, scales_piece X p R hR 0 (by decide) _ _ _ _ rfl rfl⟩
  · simp only [List.exists_mem_cons_iff, List.not_mem_nil, false_and, exists_false, or_false]
    have hg : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
    rcases hg with hg | hg | hg | hg | hg | hg | hg | hg
    · exact Or.inl (scales_mem 7 _ _ rfl y hg)
    · exact Or.inr (Or.inl (scales_mem 6 _ _ rfl y hg))
    · exact Or.inr (Or.inr (Or.inl (scales_mem 5 _ _ rfl y hg)))
    · exact Or.inr (Or.inr (Or.inr (Or.inl (scales_mem 4 _ _ rfl y hg))))
    · exact Or.inr (Or.inr (Or.inr (Or.inr (Or.inl (scales_mem 3 _ _ rfl y hg)))))
    · exact Or.inr (Or.inr (Or.inr (Or.inr (Or.inr (Or.inl (scales_mem 2 _ _ rfl y hg))))))
    · exact Or.inr (Or.inr (Or.inr (Or.inr (Or.inr (Or.inr (Or.inl (scales_mem 1 _ _ rfl y hg)))))))
    · exact Or.inr (Or.inr (Or.inr (Or.inr (Or.inr (Or.inr (Or.inr ((scales_mem 0 _ _ rfl y hg))))))))

set_option maxHeartbeats 1000000 in
/-- The body's triple: from the input blocks `x0` and `x1`, whatever the outputs' and the scratch's buffers hold, it leaves
    the codes' block at `cBlk x0 x1` and the scales' block at `sBlk x0 x1`. -/
theorem kernelRun0_A (c : Dev nD) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole)
    (x0 : Vec F S1x1024x2048 .bf16) (x1 : Vec F S256x256 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare (cBlk x0 x1) ∗ owns (c : Thread nD τ) arg4 fullShare (sBlk x0 x1) ∗ (∃ d, owns (c : Thread nD τ) arg5 fullShare d)) -∗ K ⟨⟩))
          ⊢ wp frame (wpE (defs₀ (F := F)) Variants.none c none) E (cc0_swiglu_fp8 i arg1 harg1 arg2 harg2 arg3 harg3 arg4 harg4 arg5 harg5) K := by
    intro E K
    simp only [cc0_swiglu_fp8_eq_skeleton]; unfold cc0_swiglu_fp8_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    sl_unfold_words
    have hp : View.readAt (Elt F) arg2.view (Rect.unit (s := S256x256) ![0, 0] S256x256.size inb_S256x256_S256x256_0_0).toLoadRect (harg2.unread x1) = x1 := by
      rw [View.readAt_eq_ld, harg2.read_unread, View.ld_unit_zero (S := S256x256) hz2]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [hp]
      exact read_codes (F := F) Variants.none c none i arg1 harg1 arg2 harg2 arg3 harg3 arg4 harg4 arg5 harg5 x1 x0 _
    isplitl [H3]
    · iexists _; isplitr; swap; · iexact H3
      ipureintro
      rw [hp]
      exact read_scales arg4 _ x0 x1 _ (read_amax (F := F) Variants.none c none i arg1 harg1 arg2 harg2 arg3 harg3 arg4 harg4 arg5 harg5 x1 x0 fs0)
    iexists _, _; isplitr; swap; · iexact HS0
    ipureintro; rfl

end Cert.Kernel.Hand

end
-- ==== Proof.Frame.lean ====
/-
  The bit-level kernel's frame, off the launch of its one pipeline.
-/
module

public import proofs.«01_k».proof.Proof.FrameRun
public import proofs.«01_k».proof.Proof.Gen.Kernel.Frame
public import Idealize.ShloMosaic.Lib.Pipeline.Value
public import Idealize.ShloMosaic.Lib.Quiescent

@[expose] public section

set_option maxRecDepth 16384
noncomputable section

namespace Cert.Kernel.Hand

open Cert.Kernel Cert.Kernel.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data, with the outputs named -/

/-- The proof data of the pipeline on core `c`: each input's buffer keeps its block, and the body leaves the blocks of
    codes and of scales that the kernel computes from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cBlk (F := F) (iblk m c 0 t) (iblk m c 1 t)
    | ⟨3, _⟩ => sBlk (F := F) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = cBlk (F := F) (iblk m c 0 t) (iblk m c 1 t) := by dsimp only [dats]
theorem after0_3 (c : Dev nD) (t : Fin cfg0.N) :
    (dats m 0 c).after 3 t = sBlk (F := F) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: its triple, at the input blocks of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every array of the pipeline ends at the proof data's contents, every other buffer at what the lines after
    the region leave, and every semaphore counter reads zero. -/
theorem run_main : θ_run defs (onTc (τ := τ) (main (F := F))) (s₀ m ρ) (fun r =>
    (Pipeline.FramePost cfgs (dats m) 0 (Pipeline.afterTail₀ cfgs (dats m) 0 (V0 m) [hostOps1]) r) ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, with every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c =>
      (((h.1 c).1 0).trans ((dats m 0 c).arrAt_in 0 rfl _)).trans ((A_eq m c 0).trans (V_main_arg0 m c)), h.2⟩)
    (run_main m ρ)

end Cert.Kernel.Hand

end
-- ==== Proof.RefStages.lean ====
/-
  What the reference computes, spelt in stages, and read at an index over the extended reals.
-/
module

public import proofs.«01_k».proof.Proof.Gen.ReferenceIdeal
public import Idealize.ShloMosaic.Lib.Pointwise

@[expose] public section

set_option maxRecDepth 16384
noncomputable section

namespace Cert.ReferenceIdeal.Hand

open Cert.ReferenceIdeal Cert.ReferenceIdeal.Gen
open Idealize.ShloMosaic Idealize.ShloMosaic.TcCoe Idealize.ShloMosaic.Tactic
open Idealize.SL.Sem

section Stages

variable {F : FTy → Type} [FloatOps F]

/-- The packed input as groups of 128 pairs (gate, up). -/
def pairs (x : Vec F S72x1024x2048 .bf16) : FVec F S72x8192x128x2 .bf16 :=
  shapeCast S72x8192x128x2 x shapeCasts_S72x1024x2048_S72x8192x128x2

def gate (x : Vec F S72x1024x2048 .bf16) : FVec F S72x8192x128 .f32 :=
  extf .f32 (shapeCast S72x8192x128 (extractStridedSlice S72x8192x128x1 ![0, 0, 0, 0] (pairs x) slices_S72x8192x128x2_S72x8192x128x1_0_0_0_0) shapeCasts_S72x8192x128x1_S72x8192x128) bitsLt_bf16_f32

def up (x : Vec F S72x1024x2048 .bf16) : FVec F S72x8192x128 .f32 :=
  extf .f32 (shapeCast S72x8192x128 (extractStridedSlice S72x8192x128x1 ![0, 0, 0, 1] (pairs x) slices_S72x8192x128x2_S72x8192x128x1_0_0_0_1) shapeCasts_S72x8192x128x1_S72x8192x128) bitsLt_bf16_f32

/-- The gated activation. -/
def act (x : Vec F S72x1024x2048 .bf16) : FVec F S72x8192x128 .f32 :=
  mulf (mulf (gate x) (Host.divf (broadcastInDim S72x8192x128 ![] bcast_S_S72x8192x128 (constant S_ .f32 0x3F800000#32)) (addf (broadcastInDim S72x8192x128 ![] bcast_S_S72x8192x128 (constant S_ .f32 0x3F800000#32)) (Host.exp (Host.negf (gate x)))))) (up x)

/-- Each group's largest magnitude. -/
def largest (y : FVec F S72x8192x128 .f32) : FVec F S72x8192 .f32 :=
  Host.reduce FloatOps.maximumf (Host.absf y) (constant S_ .f32 0xFF800000#32) reducesTo_S72x8192x128_S72x8192_d2 h_S_

/-- A magnitude over 448. -/
def over (a : FVec F S72x8192 .f32) : FVec F S72x8192 .f32 :=
  mulf a (broadcastInDim S72x8192 ![] bcast_S_S72x8192 (constant S_ .f32 0x3B124925#32))

/-- The exponent of each group's scale, off the ratio. -/
def exponent (v : FVec F S72x8192 .f32) : FVec F S72x8192 .f32 :=
  select (cmpf .olt v (broadcastInDim S72x8192 ![] bcast_S_S72x8192 (constant S_ .f32 0x00800000#32))) (broadcastInDim S72x8192 ![] bcast_S_S72x8192 (id (constant S_ .f32 0x00000000#32))) (addf (Host.floor (Host.divf (Host.log v) (broadcastInDim S72x8192 ![] bcast_S_S72x8192 (Host.log (constant S_ .f32 0x40000000#32))))) (broadcastInDim S72x8192 ![] bcast_S_S72x8192 (constant S_ .f32 0x3F800000#32)))

def two : FVec F S72x8192 .f32 := broadcastInDim S72x8192 ![] bcast_S_S72x8192 (constant S_ .f32 0x40000000#32)

/-- Activations times `2 ^ -e`, clipped and narrowed. -/
def quantise (y : FVec F S72x8192x128 .f32) (e : FVec F S72x8192 .f32) : FVec F S72x1024x1024 .fp8e4m3 :=
  Host.convertf .fp8e4m3 (shapeCast S72x1024x1024 (minimumf (broadcastInDim S72x8192x128 ![] bcast_S_S72x8192x128 (id (constant S_ .f32 0x43E00000#32))) (maximumf (broadcastInDim S72x8192x128 ![] bcast_S_S72x8192x128 (id (constant S_ .f32 0xC3E00000#32))) (mulf y (broadcastInDim S72x8192x128 ![0, 1, 2] bcast_S72x8192x1_S72x8192x128_0_1_2 (broadcastInDim S72x8192x1 ![0, 1] bcast_S72x8192_S72x8192x1_0_1 (Host.powf two (Host.negf e))))))) shapeCasts_S72x8192x128_S72x1024x1024)

/-- The scales `2 ^ e`. -/
def powers (e : FVec F S72x8192 .f32) : FVec F S72x1024x8 .f32 :=
  shapeCast S72x1024x8 (Host.powf two e) shapeCasts_S72x8192_S72x1024x8

/-- The reference's codes. -/
def codes (x : Vec F S72x1024x2048 .bf16) : FVec F S72x1024x1024 .fp8e4m3 := quantise (act x) (exponent (over (largest (act x))))

/-- The reference's scales. -/
def scales (x : Vec F S72x1024x2048 .bf16) : FVec F S72x1024x8 .f32 := powers (exponent (over (largest (act x))))

end Stages

end Cert.ReferenceIdeal.Hand

end
-- ==== Proof.RefValue.lean ====
/-
  What the reference computes, spelt in stages, and read at an index over the extended reals.
-/
module

public import proofs.«01_k».proof.Proof.Gen.ReferenceIdeal.Run
public import proofs.«01_k».proof.Pre_no_overflow
public import Idealize.ShloMosaic.Lib.Pointwise
public import Idealize.ShloMosaic.Lib.Quiescent
public import proofs.«01_k».proof.Proof.RefStages

@[expose] public section

set_option maxRecDepth 16384
noncomputable section

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The reference's run: both results, the argument unchanged, no counter to end at anything but zero. -/
theorem run : θ_run defs (onTc (τ := τ) (main (F := F))) ⟨m, fun _ => 0, ρ⟩ (fun r => (∀ c : Dev nD,
      r.2.mem ((c.tc : Thread nD τ).loc main_v39) = codes (m ((c.tc : Thread nD τ).loc main_arg0))
      ∧ r.2.mem ((c.tc : Thread nD τ).loc main_v40) = scales (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨fun c => ⟨(h c).1, (h c).2.1, (h c).2.2⟩, sem_eq_zero_of_no_sems (by decide) _⟩)
    (Value.run m ρ)

end Cert.ReferenceIdeal.Hand

end
-- ==== Proof.Table.lean ====
/-
  The kernel's permutation matrix is printed as a table of 65536 words. The test that one of its entries is what the
  permutation says: column `j` of the product takes feature `2 j` (a gate) for `j < 128` and `2 (j - 128) + 1` (an up) for
  the other half.
-/
module

public import proofs.«01_k».proof.KernelIdeal

@[expose] public section

noncomputable section

namespace Cert.KernelIdeal.Hand

open Cert.KernelIdeal

/-- Whether `p` holds at every number below `n`. -/
def allBelow (p : Nat → Bool) (n : Nat) : Bool :=
  Nat.rec (motive := fun _ => Bool) true (fun n ih => Bool.and (p n) ih) n

theorem allBelow_spec (p : Nat → Bool) : ∀ n : Nat, allBelow p n = true → ∀ i, i < n → p i = true
  | 0, _, i, h => absurd h (Nat.not_lt_zero i)
  | n + 1, e, i, h => by
    have e' : (p n && allBelow p n) = true := e
    rw [Bool.and_eq_true] at e'
    rcases Nat.lt_succ_iff_lt_or_eq.1 h with h | rfl
    · exact allBelow_spec p n e'.2 i h
    · exact e'.1

/-- What entry `i` of the table is to be: one (the bf16 word `0x3F80`) where the row is the column's feature, else zero. -/
def wantAt (i : Nat) : Nat :=
  Bool.rec 0 0x3F80 (Nat.beq (i / 256) (2 * (i % 128) + i / 128 % 2))

/-- Whether entry `i` of the table is what it is to be. -/
def okAt (i : Nat) : Bool := Nat.beq (lit0t i).toNat (wantAt i)

end Cert.KernelIdeal.Hand

end
-- ==== Proof.Table0.lean ====
/-
  Rows 0 to 31 of the permutation matrix, checked entry by entry.
-/
module

public import proofs.«01_k».proof.Proof.Table

@[expose] public section

noncomputable section

namespace Cert.KernelIdeal.Hand

set_option maxRecDepth 100000 in
theorem table_0 : allBelow (fun n => okAt (0 + n)) 4096 = true := by decide +kernel

set_option maxRecDepth 100000 in
theorem table_1 : allBelow (fun n => okAt (4096 + n)) 4096 = true := by decide +kernel

end Cert.KernelIdeal.Hand

end
-- ==== Proof.Table1.lean ====
/-
  Rows 32 to 63 of the permutation matrix, checked entry by entry.
-/
module

public import proofs.«01_k».proof.Proof.Table

@[expose] public section

noncomputable section

namespace Cert.KernelIdeal.Hand

set_option maxRecDepth 100000 in
theorem table_2 : allBelow (fun n => okAt (8192 + n)) 4096 = true := by decide +kernel

set_option maxRecDepth 100000 in
theorem table_3 : allBelow (fun n => okAt (12288 + n)) 4096 = true := by decide +kernel

end Cert.KernelIdeal.Hand

end
-- ==== Proof.Table2.lean ====
/-
  Rows 64 to 95 of the permutation matrix, checked entry by entry.
-/
module

public import proofs.«01_k».proof.Proof.Table

@[expose] public section

noncomputable section

namespace Cert.KernelIdeal.Hand

set_option maxRecDepth 100000 in
theorem table_4 : allBelow (fun n => okAt (16384 + n)) 4096 = true := by decide +kernel

set_option maxRecDepth 100000 in
theorem table_5 : allBelow (fun n => okAt (20480 + n)) 4096 = true := by decide +kernel

end Cert.KernelIdeal.Hand

end
-- ==== Proof.Table3.lean ====
/-
  Rows 96 to 127 of the permutation matrix, checked entry by entry.
-/
module

public import proofs.«01_k».proof.Proof.Table

@[expose] public section

noncomputable section

namespace Cert.KernelIdeal.Hand

set_option maxRecDepth 100000 in
theorem table_6 : allBelow (fun n => okAt (24576 + n)) 4096 = true := by decide +kernel

set_option maxRecDepth 100000 in
theorem table_7 : allBelow (fun n => okAt (28672 + n)) 4096 = true := by decide +kernel

end Cert.KernelIdeal.Hand

end
-- ==== Proof.Table4.lean ====
/-
  Rows 128 to 159 of the permutation matrix, checked entry by entry.
-/
module

public import proofs.«01_k».proof.Proof.Table

@[expose] public section

noncomputable section

namespace Cert.KernelIdeal.Hand

set_option maxRecDepth 100000 in
theorem table_8 : allBelow (fun n => okAt (32768 + n)) 4096 = true := by decide +kernel

set_option maxRecDepth 100000 in
theorem table_9 : allBelow (fun n => okAt (36864 + n)) 4096 = true := by decide +kernel

end Cert.KernelIdeal.Hand

end
-- ==== Proof.Table5.lean ====
/-
  Rows 160 to 191 of the permutation matrix, checked entry by entry.
-/
module

public import proofs.«01_k».proof.Proof.Table

@[expose] public section

noncomputable section

namespace Cert.KernelIdeal.Hand

set_option maxRecDepth 100000 in
theorem table_10 : allBelow (fun n => okAt (40960 + n)) 4096 = true := by decide +kernel

set_option maxRecDepth 100000 in
theorem table_11 : allBelow (fun n => okAt (45056 + n)) 4096 = true := by decide +kernel

end Cert.KernelIdeal.Hand

end
-- ==== Proof.Table6.lean ====
/-
  Rows 192 to 223 of the permutation matrix, checked entry by entry.
-/
module

public import proofs.«01_k».proof.Proof.Table

@[expose] public section

noncomputable section

namespace Cert.KernelIdeal.Hand

set_option maxRecDepth 100000 in
theorem table_12 : allBelow (fun n => okAt (49152 + n)) 4096 = true := by decide +kernel

set_option maxRecDepth 100000 in
theorem table_13 : allBelow (fun n => okAt (53248 + n)) 4096 = true := by decide +kernel

end Cert.KernelIdeal.Hand

end
-- ==== Proof.Table7.lean ====
/-
  Rows 224 to 255 of the permutation matrix, checked entry by entry.
-/
module

public import proofs.«01_k».proof.Proof.Table

@[expose] public section

noncomputable section

namespace Cert.KernelIdeal.Hand

set_option maxRecDepth 100000 in
theorem table_14 : allBelow (fun n => okAt (57344 + n)) 4096 = true := by decide +kernel

set_option maxRecDepth 100000 in
theorem table_15 : allBelow (fun n => okAt (61440 + n)) 4096 = true := by decide +kernel

end Cert.KernelIdeal.Hand

end
-- ==== Proof.TableAll.lean ====
/-
  Every entry of the permutation matrix.
-/
module

public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7

@[expose] public section

noncomputable section

namespace Cert.KernelIdeal.Hand

open Cert.KernelIdeal

theorem of_table (b : Nat) (h : allBelow (fun n => okAt (b + n)) 4096 = true) (i : Nat) (h0 : b ≤ i) (h1 : i < b + 4096) :
    okAt i = true := by
  have := allBelow_spec _ 4096 h (i - b) (by omega)
  rwa [show b + (i - b) = i by omega] at this

/-- Every entry of the table is what it is to be. -/
theorem okAt_all (i : Nat) (hi : i < 65536) : okAt i = true := by
  have h : i / 4096 < 16 := by omega
  match hq : i / 4096, h with
  | 0, _ => exact of_table 0 table_0 i (by omega) (by omega)
  | 1, _ => exact of_table 4096 table_1 i (by omega) (by omega)
  | 2, _ => exact of_table 8192 table_2 i (by omega) (by omega)
  | 3, _ => exact of_table 12288 table_3 i (by omega) (by omega)
  | 4, _ => exact of_table 16384 table_4 i (by omega) (by omega)
  | 5, _ => exact of_table 20480 table_5 i (by omega) (by omega)
  | 6, _ => exact of_table 24576 table_6 i (by omega) (by omega)
  | 7, _ => exact of_table 28672 table_7 i (by omega) (by omega)
  | 8, _ => exact of_table 32768 table_8 i (by omega) (by omega)
  | 9, _ => exact of_table 36864 table_9 i (by omega) (by omega)
  | 10, _ => exact of_table 40960 table_10 i (by omega) (by omega)
  | 11, _ => exact of_table 45056 table_11 i (by omega) (by omega)
  | 12, _ => exact of_table 49152 table_12 i (by omega) (by omega)
  | 13, _ => exact of_table 53248 table_13 i (by omega) (by omega)
  | 14, _ => exact of_table 57344 table_14 i (by omega) (by omega)
  | 15, _ => exact of_table 61440 table_15 i (by omega) (by omega)
  | n + 16, h => omega

/-- The table's word at row `k`, column `j`. -/
theorem lit0t_at (k j : Nat) (hk : k < 256) (hj : j < 256) :
    lit0t (k * 256 + j) = if k = 2 * (j % 128) + j / 128 then 0x3F80#16 else 0#16 := by
  have h := Nat.eq_of_beq_eq_true (okAt_all (k * 256 + j) (by omega))
  apply BitVec.eq_of_toNat_eq
  rw [h]
  unfold wantAt
  rw [show (k * 256 + j) / 256 = k by omega, show (k * 256 + j) % 128 = j % 128 by omega,
    show (k * 256 + j) / 128 % 2 = j / 128 by omega]
  by_cases e : k = 2 * (j % 128) + j / 128
  · rw [if_pos e, show Nat.beq k (2 * (j % 128) + j / 128) = true from by rw [← e]; exact Nat.beq_refl k]; rfl
  · rw [if_neg e, show Nat.beq k (2 * (j % 128) + j / 128) = false from by
      cases hb : Nat.beq k (2 * (j % 128) + j / 128)
      · rfl
      · exact absurd (Nat.eq_of_beq_eq_true hb) e]
    rfl

end Cert.KernelIdeal.Hand

end
-- ==== Proof.Block.lean ====
/-
  What the kernel computes on one block, at any float values: the field search, the exponent, one group of 128 features
  of 256 rows, one tile of 128 rows of the scales; and what one trip of the row loop stores, group by group.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Writes

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F] [Named F]

/-! ## The exponent of a vector of floats -/

/-- One step of the field search: bit `b` is kept unless `v` is below the float of the word `(n | b) << 23`. -/
def fstep {s : Shape} (v : FVec F s .f32) (n : IVec s 32) (b : BitVec 32) : IVec s 32 :=
  select (cmpf .olt v (bitcastToFloat .f32 (shli (ori n (broadcast s b)) (broadcast s 23#32)))) n (ori n (broadcast s b))

/-- The field search: eight bits from the top. -/
def field {s : Shape} (v : FVec F s .f32) : IVec s 32 :=
  fstep v (fstep v (fstep v (fstep v (fstep v (fstep v (fstep v (fstep v (broadcast s 0#32) 128#32) 64#32) 32#32) 16#32) 8#32) 4#32) 2#32) 1#32

/-- The exponent: 0 for the field 0, else the field less 126. -/
def expo {s : Shape} (v : FVec F s .f32) : IVec s 32 :=
  select (cmpi .eq (field v) (broadcast s 0#32)) (broadcast s 0#32) (subi (field v) (broadcast s 126#32))

/-- The float of the word `(e + 127) << 23`. -/
def pow2 {s : Shape} (e : IVec s 32) : FVec F s .f32 :=
  bitcastToFloat .f32 (shli (addi e (broadcast s 127#32)) (broadcast s 23#32))

/-! ## One group of 128 features of 256 rows, one tile of 128 rows of the scales -/

/-- The codes of one group: the kernel's `y` times `2 ^ -e`, clipped, narrowed. -/
def grpC (p : Vec F S256x256 .bf16) (w : Vec F S1x256x256 .bf16) : FVec F S1x256x128 .fp8e4m3 :=
  shapeCast S1x256x128 (truncf .fp8e4m3
    (minimumf (broadcast S256x128 (Scalar.ofBits .f32 0x43E00000#32))
      (maximumf (broadcast S256x128 (Scalar.ofBits .f32 0xC3E00000#32))
        (mulf (k0_pay2 p w) (pow2 (subi (broadcast S256x128 0#32) (expo (k0_pay5 p w)))))))
    bitsLt_fp8e4m3_f32) shapeCasts_S256x128_S1x256x128

/-- The row maxima of one group. -/
def grpA (p : Vec F S256x256 .bf16) (w : Vec F S1x256x256 .bf16) : FVec F S256x1 .f32 := k0_pay4 p w

/-- The scales of 128 rows, off the row maxima of those rows. -/
def tileS (t : Vec F S128x128 .f32) : FVec F S1x8x128 .f32 :=
  shapeCast S1x8x128 (pow2 (expo (k0_pay76 t))) shapeCasts_S8x128_S1x8x128

/-! ## One trip of the row loop -/

section Trip

variable (𝒱 : Variants) (c : Dev nD) (bd : Option 𝒱.V) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole) (v0 : Vec F S256x256 .bf16) (X : Vec F S1x1024x2048 .bf16)

/-- What trip `k` stores into the codes' block: each group's codes, the last group first. -/
theorem trip_codes (k : Fin k0_t1_loop.trips) :
    (tripL_k0_t1 (F := F) 𝒱 c bd i arg1 harg1 arg2 harg2 arg3 harg3 arg4 harg4 arg5 harg5 v0 (harg1.unread X) k).1 = [
      ⟨Rect.unit (s := S1x1024x1024) (k0_off24 k) S1x256x128.size (k0_off24_inb k), grpC v0 (View.ld X (Rect.unit (s := S1x1024x2048) (k0_off22 k) S1x256x256.size (k0_off22_inb k)))⟩,
      ⟨Rect.unit (s := S1x1024x1024) (k0_off21 k) S1x256x128.size (k0_off21_inb k), grpC v0 (View.ld X (Rect.unit (s := S1x1024x2048) (k0_off19 k) S1x256x256.size (k0_off19_inb k)))⟩,
      ⟨Rect.unit (s := S1x1024x1024) (k0_off18 k) S1x256x128.size (k0_off18_inb k), grpC v0 (View.ld X (Rect.unit (s := S1x1024x2048) (k0_off16 k) S1x256x256.size (k0_off16_inb k)))⟩,
      ⟨Rect.unit (s := S1x1024x1024) (k0_off15 k) S1x256x128.size (k0_off15_inb k), grpC v0 (View.ld X (Rect.unit (s := S1x1024x2048) (k0_off13 k) S1x256x256.size (k0_off13_inb k)))⟩,
      ⟨Rect.unit (s := S1x1024x1024) (k0_off12 k) S1x256x128.size (k0_off12_inb k), grpC v0 (View.ld X (Rect.unit (s := S1x1024x2048) (k0_off10 k) S1x256x256.size (k0_off10_inb k)))⟩,
      ⟨Rect.unit (s := S1x1024x1024) (k0_off9 k) S1x256x128.size (k0_off9_inb k), grpC v0 (View.ld X (Rect.unit (s := S1x1024x2048) (k0_off7 k) S1x256x256.size (k0_off7_inb k)))⟩,
      ⟨Rect.unit (s := S1x1024x1024) (k0_off6 k) S1x256x128.size (k0_off6_inb k), grpC v0 (View.ld X (Rect.unit (s := S1x1024x2048) (k0_off4 k) S1x256x256.size (k0_off4_inb k)))⟩,
      ⟨Rect.unit (s := S1x1024x1024) (k0_off3 k) S1x256x128.size (k0_off3_inb k), grpC v0 (View.ld X (Rect.unit (s := S1x1024x2048) (k0_off1 k) S1x256x256.size (k0_off1_inb k)))⟩] := by
  unfold tripL_k0_t1 trip_k0_t1
  dsimp only
  sl_unfold_words
  simp only [View.readAt_eq_ld, harg1.read_unread]
  rfl

/-- What trip `k` stores into the row maxima: each group's column, the last group first. -/
theorem trip_amax (k : Fin k0_t1_loop.trips) :
    (tripL_k0_t1 (F := F) 𝒱 c bd i arg1 harg1 arg2 harg2 arg3 harg3 arg4 harg4 arg5 harg5 v0 (harg1.unread X) k).2 = [
      ⟨Rect.unit (s := S1024x128) (k0_off23 k) S256x1.size (k0_off23_inb k), grpA v0 (View.ld X (Rect.unit (s := S1x1024x2048) (k0_off22 k) S1x256x256.size (k0_off22_inb k)))⟩,
      ⟨Rect.unit (s := S1024x128) (k0_off20 k) S256x1.size (k0_off20_inb k), grpA v0 (View.ld X (Rect.unit (s := S1x1024x2048) (k0_off19 k) S1x256x256.size (k0_off19_inb k)))⟩,
      ⟨Rect.unit (s := S1024x128) (k0_off17 k) S256x1.size (k0_off17_inb k), grpA v0 (View.ld X (Rect.unit (s := S1x1024x2048) (k0_off16 k) S1x256x256.size (k0_off16_inb k)))⟩,
      ⟨Rect.unit (s := S1024x128) (k0_off14 k) S256x1.size (k0_off14_inb k), grpA v0 (View.ld X (Rect.unit (s := S1x1024x2048) (k0_off13 k) S1x256x256.size (k0_off13_inb k)))⟩,
      ⟨Rect.unit (s := S1024x128) (k0_off11 k) S256x1.size (k0_off11_inb k), grpA v0 (View.ld X (Rect.unit (s := S1x1024x2048) (k0_off10 k) S1x256x256.size (k0_off10_inb k)))⟩,
      ⟨Rect.unit (s := S1024x128) (k0_off8 k) S256x1.size (k0_off8_inb k), grpA v0 (View.ld X (Rect.unit (s := S1x1024x2048) (k0_off7 k) S1x256x256.size (k0_off7_inb k)))⟩,
      ⟨Rect.unit (s := S1024x128) (k0_off5 k) S256x1.size (k0_off5_inb k), grpA v0 (View.ld X (Rect.unit (s := S1x1024x2048) (k0_off4 k) S1x256x256.size (k0_off4_inb k)))⟩,
      ⟨Rect.unit (s := S1024x128) (k0_off2 k) S256x1.size (k0_off2_inb k), grpA v0 (View.ld X (Rect.unit (s := S1x1024x2048) (k0_off1 k) S1x256x256.size (k0_off1_inb k)))⟩] := by
  unfold tripL_k0_t1 trip_k0_t1
  dsimp only
  sl_unfold_words
  simp only [View.readAt_eq_ld, harg1.read_unread]
  rfl

end Trip

end Cert.KernelIdeal.Hand

end
-- ==== Proof.Pieces.lean ====
/-
  The stores of the whole body, gathered: what the codes' block and the row maxima hold after the row loop, at an index.
-/
module

public import proofs.«01_k».proof.Proof.Block
public import Idealize.ShloMosaic.Lib.Pipeline.ValueKit.Tiles

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.ShloMosaic.Pointwise
open Idealize.SL.Sem

variable {F : FTy → Type} [FloatOps F] [Named F]

/-- 256 rows of block `X` at group `g`: rows `256 k ..`, features `256 g ..`. -/
def win (X : Vec F S1x1024x2048 .bf16) (k g : ℕ) : Vec F S1x256x256 .bf16 := fun y =>
  X (ix3 (0 : Fin 1) (⟨(256 * k + (y 1).val) % 1024, Nat.mod_lt _ (by decide)⟩ : Fin 1024)
    (⟨(256 * g + (y 2).val) % 2048, Nat.mod_lt _ (by decide)⟩ : Fin 2048))

/-- The codes of one block of 1024 rows. -/
def cBlk (X : Vec F S1x1024x2048 .bf16) (p : Vec F S256x256 .bf16) : Vec F S1x1024x1024 .fp8e4m3 := fun j =>
  grpC p (win X ((j 1).val / 256) ((j 2).val / 128))
    (ix3 (0 : Fin 1) (⟨(j 1).val % 256, Nat.mod_lt _ (by decide)⟩ : Fin 256) (⟨(j 2).val % 128, Nat.mod_lt _ (by decide)⟩ : Fin 128))

/-- The row maxima of one block: row `r`, group `g` (its first eight columns). -/
def aBlk (X : Vec F S1x1024x2048 .bf16) (p : Vec F S256x256 .bf16) : Vec F S1024x128 .f32 := fun j =>
  grpA p (win X ((j 0).val / 256) (j 1).val) (ix2 (⟨(j 0).val % 256, Nat.mod_lt _ (by decide)⟩ : Fin 256) (0 : Fin 1))

theorem ld_win (X : Vec F S1x1024x2048 .bf16) (k g : ℕ) (hk : k < 4) (hg : g < 8) (off : Fin 3 → ℕ) (inb)
    (ho : off = ![0, 256 * k, 256 * g]) :
    View.ld X (Rect.unit (s := S1x1024x2048) off S1x256x256.size inb) = win X k g := by
  subst ho
  funext y
  have h0 : (y 0).val < 1 := (y 0).isLt
  have h1 : (y 1).val < 256 := (y 1).isLt
  have h2 : (y 2).val < 256 := (y 2).isLt
  refine View.ld_unit_apply_of X _ _ inb y _ fun a => ?_
  match a with
  | ⟨0, _⟩ => show 0 = 0 + (y 0).val; omega
  | ⟨1, _⟩ => show (256 * k + (y 1).val) % 1024 = 256 * k + (y 1).val; omega
  | ⟨2, _⟩ => show (256 * g + (y 2).val) % 2048 = 256 * g + (y 2).val; omega

theorem codes_piece (X : Vec F S1x1024x2048 .bf16) (p : Vec F S256x256 .bf16) (k g : ℕ) (hk : k < 4) (hg : g < 8)
    (off off' : Fin 3 → ℕ) (inb) (inb') (ho : off = ![0, 256 * k, 128 * g]) (ho' : off' = ![0, 256 * k, 256 * g])
    (x : (Rect.unit (s := S1x1024x1024) off S1x256x128.size inb).shape.Idx) :
    grpC p (View.ld X (Rect.unit (s := S1x1024x2048) off' S1x256x256.size inb')) x
      = cBlk X p ((Rect.unit (s := S1x1024x1024) off S1x256x128.size inb).emb x) := by
  rw [ld_win X k g hk hg off' inb' ho']
  have h0 : (x 0).val < 1 := (x 0).isLt
  have h1 : (x 1).val < 256 := (x 1).isLt
  have h2 : (x 2).val < 128 := (x 2).isLt
  have e1 : (((Rect.unit (s := S1x1024x1024) off S1x256x128.size inb).emb x) 1).val = 256 * k + (x 1).val := by
    subst ho; exact Rect.idx_unit_val _ _ inb x 1
  have e2 : (((Rect.unit (s := S1x1024x1024) off S1x256x128.size inb).emb x) 2).val = 128 * g + (x 2).val := by
    subst ho; exact Rect.idx_unit_val _ _ inb x 2
  unfold cBlk
  rw [show (((Rect.unit (s := S1x1024x1024) off S1x256x128.size inb).emb x) 1).val / 256 = k by rw [e1]; omega,
    show (((Rect.unit (s := S1x1024x1024) off S1x256x128.size inb).emb x) 2).val / 128 = g by rw [e2]; omega]
  refine congrArg (grpC p (win X k g)) (funext fun a => Fin.ext ?_)
  match a with
  | ⟨0, _⟩ => show (x 0).val = 0; omega
  | ⟨1, _⟩ => show (x 1).val = (((Rect.unit (s := S1x1024x1024) off S1x256x128.size inb).emb x) 1).val % 256; rw [e1]; omega
  | ⟨2, _⟩ => show (x 2).val = (((Rect.unit (s := S1x1024x1024) off S1x256x128.size inb).emb x) 2).val % 128; rw [e2]; omega

theorem amax_piece (X : Vec F S1x1024x2048 .bf16) (p : Vec F S256x256 .bf16) (k g : ℕ) (hk : k < 4) (hg : g < 8)
    (off : Fin 2 → ℕ) (off' : Fin 3 → ℕ) (inb) (inb') (ho : off = ![256 * k, g]) (ho' : off' = ![0, 256 * k, 256 * g])
    (x : (Rect.unit (s := S1024x128) off S256x1.size inb).shape.Idx) :
    grpA p (View.ld X (Rect.unit (s := S1x1024x2048) off' S1x256x256.size inb')) x
      = aBlk X p ((Rect.unit (s := S1024x128) off S256x1.size inb).emb x) := by
  rw [ld_win X k g hk hg off' inb' ho']
  have h0 : (x 0).val < 256 := (x 0).isLt
  have h1 : (x 1).val < 1 := (x 1).isLt
  have e0 : (((Rect.unit (s := S1024x128) off S256x1.size inb).emb x) 0).val = 256 * k + (x 0).val := by
    subst ho; exact Rect.idx_unit_val _ _ inb x 0
  have e1 : (((Rect.unit (s := S1024x128) off S256x1.size inb).emb x) 1).val = g + (x 1).val := by
    subst ho; exact Rect.idx_unit_val _ _ inb x 1
  unfold aBlk
  rw [show (((Rect.unit (s := S1024x128) off S256x1.size inb).emb x) 0).val / 256 = k by rw [e0]; omega,
    show (((Rect.unit (s := S1024x128) off S256x1.size inb).emb x) 1).val = g by rw [e1]; omega]
  refine congrArg (grpA p (win X k g)) (funext fun a => Fin.ext ?_)
  match a with
  | ⟨0, _⟩ => show (x 0).val = (((Rect.unit (s := S1024x128) off S256x1.size inb).emb x) 0).val % 256; rw [e0]; omega
  | ⟨1, _⟩ => show (x 1).val = 0; omega

theorem codes_mem (k g : ℕ) (off : Fin 3 → ℕ) (inb) (ho : off = ![0, 256 * k, 128 * g]) (y : S1x1024x1024.Idx)
    (hk : (y 1).val / 256 = k) (hg : (y 2).val / 128 = g) :
    y ∈ (Rect.unit (s := S1x1024x1024) off S1x256x128.size inb).set := by
  subst ho
  have h0 : (y 0).val < 1 := (y 0).isLt
  rw [Rect.mem_set_unit]
  intro a
  match a with
  | ⟨0, _⟩ => show 0 ≤ (y 0).val ∧ (y 0).val < 0 + 1; omega
  | ⟨1, _⟩ => show 256 * k ≤ (y 1).val ∧ (y 1).val < 256 * k + 256; omega
  | ⟨2, _⟩ => show 128 * g ≤ (y 2).val ∧ (y 2).val < 128 * g + 128; omega

theorem amax_mem (k g : ℕ) (off : Fin 2 → ℕ) (inb) (ho : off = ![256 * k, g]) (y : S1024x128.Idx)
    (hk : (y 0).val / 256 = k) (hg : (y 1).val = g) :
    y ∈ (Rect.unit (s := S1024x128) off S256x1.size inb).set := by
  subst ho
  rw [Rect.mem_set_unit]
  intro a
  match a with
  | ⟨0, _⟩ => show 256 * k ≤ (y 0).val ∧ (y 0).val < 256 * k + 256; omega
  | ⟨1, _⟩ => show g ≤ (y 1).val ∧ (y 1).val < g + 1; omega

theorem trips_eq : k0_t1_loop.trips = 4 := by decide +kernel

section Trip

variable (𝒱 : Variants) (c : Dev nD) (bd : Option 𝒱.V) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole) (v0 : Vec F S256x256 .bf16) (X : Vec F S1x1024x2048 .bf16)

/-- Every store of trip `k` into the codes' block is a part of `cBlk`, and together they cover the trip's rows. -/
theorem trip_codes_ok (k : Fin k0_t1_loop.trips) :
    (∀ pc ∈ (tripL_k0_t1 (F := F) 𝒱 c bd i arg1 harg1 arg2 harg2 arg3 harg3 arg4 harg4 arg5 harg5 v0 (harg1.unread X) k).1, ∀ x, pc.2 x = cBlk X v0 (pc.1.emb x))
    ∧ ∀ y : S1x1024x1024.Idx, (y 1).val / 256 = k.val → ∃ pc ∈ (tripL_k0_t1 (F := F) 𝒱 c bd i arg1 harg1 arg2 harg2 arg3 harg3 arg4 harg4 arg5 harg5 v0 (harg1.unread X) k).1, y ∈ pc.1.set := by
  have hk : k.val < 4 := lt_of_lt_of_eq k.isLt trips_eq
  rw [trip_codes]
  refine ⟨?_, fun y hy => ?_⟩
  · simp only [List.forall_mem_cons, List.not_mem_nil, false_implies, implies_true, and_true]
    exact ⟨codes_piece X v0 k 7 hk (by decide) _ _ _ _ (k0_off24_eq k) (k0_off22_eq k), codes_piece X v0 k 6 hk (by decide) _ _ _ _ (k0_off21_eq k) (k0_off19_eq k), codes_piece X v0 k 5 hk (by decide) _ _ _ _ (k0_off18_eq k) (k0_off16_eq k), codes_piece X v0 k 4 hk (by decide) _ _ _ _ (k0_off15_eq k) (k0_off13_eq k), codes_piece X v0 k 3 hk (by decide) _ _ _ _ (k0_off12_eq k) (k0_off10_eq k), codes_piece X v0 k 2 hk (by decide) _ _ _ _ (k0_off9_eq k) (k0_off7_eq k), codes_piece X v0 k 1 hk (by decide) _ _ _ _ (k0_off6_eq k) (k0_off4_eq k), codes_piece X v0 k 0 hk (by decide) _ _ _ _ (k0_off3_eq k) (k0_off1_eq k)⟩
  · have h2 : (y 2).val < 1024 := (y 2).isLt
    simp only [List.exists_mem_cons_iff, List.not_mem_nil, false_and, exists_false, or_false]
    have hg : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
    rcases hg with hg | hg | hg | hg | hg | hg | hg | hg
    · exact Or.inl (codes_mem k 7 _ _ (k0_off24_eq k) y hy hg)
    · exact Or.inr (Or.inl (codes_mem k 6 _ _ (k0_off21_eq k) y hy hg))
    · exact Or.inr (Or.inr (Or.inl (codes_mem k 5 _ _ (k0_off18_eq k) y hy hg)))
    · exact Or.inr (Or.inr (Or.inr (Or.inl (codes_mem k 4 _ _ (k0_off15_eq k) y hy hg))))
    · exact Or.inr (Or.inr (Or.inr (Or.inr (Or.inl (codes_mem k 3 _ _ (k0_off12_eq k) y hy hg)))))
    · exact Or.inr (Or.inr (Or.inr (Or.inr (Or.inr (Or.inl (codes_mem k 2 _ _ (k0_off9_eq k) y hy hg))))))
    · exact Or.inr (Or.inr (Or.inr (Or.inr (Or.inr (Or.inr (Or.inl (codes_mem k 1 _ _ (k0_off6_eq k) y hy hg)))))))
    · exact Or.inr (Or.inr (Or.inr (Or.inr (Or.inr (Or.inr (Or.inr ((codes_mem k 0 _ _ (k0_off3_eq k) y hy hg))))))))

/-- Every store of trip `k` into the row maxima is a part of `aBlk`, and together they cover the trip's rows of the
    first eight columns. -/
theorem trip_amax_ok (k : Fin k0_t1_loop.trips) :
    (∀ pc ∈ (tripL_k0_t1 (F := F) 𝒱 c bd i arg1 harg1 arg2 harg2 arg3 harg3 arg4 harg4 arg5 harg5 v0 (harg1.unread X) k).2, ∀ x, pc.2 x = aBlk X v0 (pc.1.emb x))
    ∧ ∀ y : S1024x128.Idx, (y 0).val / 256 = k.val → (y 1).val < 8 → ∃ pc ∈ (tripL_k0_t1 (F := F) 𝒱 c bd i arg1 harg1 arg2 harg2 arg3 harg3 arg4 harg4 arg5 harg5 v0 (harg1.unread X) k).2, y ∈ pc.1.set := by
  have hk : k.val < 4 := lt_of_lt_of_eq k.isLt trips_eq
  rw [trip_amax]
  refine ⟨?_, fun y hy h2 => ?_⟩
  · simp only [List.forall_mem_cons, List.not_mem_nil, false_implies, implies_true, and_true]
    exact ⟨amax_piece X v0 k 7 hk (by decide) _ _ _ _ (k0_off23_eq k) (k0_off22_eq k), amax_piece X v0 k 6 hk (by decide) _ _ _ _ (k0_off20_eq k) (k0_off19_eq k), amax_piece X v0 k 5 hk (by decide) _ _ _ _ (k0_off17_eq k) (k0_off16_eq k), amax_piece X v0 k 4 hk (by decide) _ _ _ _ (k0_off14_eq k) (k0_off13_eq k), amax_piece X v0 k 3 hk (by decide) _ _ _ _ (k0_off11_eq k) (k0_off10_eq k), amax_piece X v0 k 2 hk (by decide) _ _ _ _ (k0_off8_eq k) (k0_off7_eq k), amax_piece X v0 k 1 hk (by decide) _ _ _ _ (k0_off5_eq k) (k0_off4_eq k), amax_piece X v0 k 0 hk (by decide) _ _ _ _ (k0_off2_eq k) (k0_off1_eq k)⟩
  · simp only [List.exists_mem_cons_iff, List.not_mem_nil, false_and, exists_false, or_false]
    have hg : (y 1).val = 7 ∨ (y 1).val = 6 ∨ (y 1).val = 5 ∨ (y 1).val = 4 ∨ (y 1).val = 3 ∨ (y 1).val = 2 ∨ (y 1).val = 1 ∨ (y 1).val = 0 := by omega
    rcases hg with hg | hg | hg | hg | hg | hg | hg | hg
    · exact Or.inl (amax_mem k 7 _ _ (k0_off23_eq k) y hy hg)
    · exact Or.inr (Or.inl (amax_mem k 6 _ _ (k0_off20_eq k) y hy hg))
    · exact Or.inr (Or.inr (Or.inl (amax_mem k 5 _ _ (k0_off17_eq k) y hy hg)))
    · exact Or.inr (Or.inr (Or.inr (Or.inl (amax_mem k 4 _ _ (k0_off14_eq k) y hy hg))))
    · exact Or.inr (Or.inr (Or.inr (Or.inr (Or.inl (amax_mem k 3 _ _ (k0_off11_eq k) y hy hg)))))
    · exact Or.inr (Or.inr (Or.inr (Or.inr (Or.inr (Or.inl (amax_mem k 2 _ _ (k0_off8_eq k) y hy hg))))))
    · exact Or.inr (Or.inr (Or.inr (Or.inr (Or.inr (Or.inr (Or.inl (amax_mem k 1 _ _ (k0_off5_eq k) y hy hg)))))))
    · exact Or.inr (Or.inr (Or.inr (Or.inr (Or.inr (Or.inr (Or.inr ((amax_mem k 0 _ _ (k0_off2_eq k) y hy hg))))))))

/-- After `n` trips: every store is a part of `cBlk` and `aBlk`, and the first `256 n` rows are covered. -/
theorem pb_ok : ∀ n : ℕ, n ≤ 4 →
    (∀ pc ∈ (pb_k0_t1 (F := F) 𝒱 c bd i arg1 harg1 arg2 harg2 arg3 harg3 arg4 harg4 arg5 harg5 v0 (harg1.unread X) n).1, ∀ x, pc.2 x = cBlk X v0 (pc.1.emb x))
    ∧ (∀ y : S1x1024x1024.Idx, (y 1).val < 256 * n → ∃ pc ∈ (pb_k0_t1 (F := F) 𝒱 c bd i arg1 harg1 arg2 harg2 arg3 harg3 arg4 harg4 arg5 harg5 v0 (harg1.unread X) n).1, y ∈ pc.1.set)
    ∧ (∀ pc ∈ (pb_k0_t1 (F := F) 𝒱 c bd i arg1 harg1 arg2 harg2 arg3 harg3 arg4 harg4 arg5 harg5 v0 (harg1.unread X) n).2, ∀ x, pc.2 x = aBlk X v0 (pc.1.emb x))
    ∧ (∀ y : S1024x128.Idx, (y 0).val < 256 * n → (y 1).val < 8 → ∃ pc ∈ (pb_k0_t1 (F := F) 𝒱 c bd i arg1 harg1 arg2 harg2 arg3 harg3 arg4 harg4 arg5 harg5 v0 (harg1.unread X) n).2, y ∈ pc.1.set)
  | 0, _ => ⟨fun pc h => absurd h List.not_mem_nil, fun y h => by omega, fun pc h => absurd h List.not_mem_nil, fun y h => by omega⟩
  | n + 1, hn => by
    obtain ⟨a1, a2, a3, a4⟩ := pb_ok n (by omega)
    have hn' : n < k0_t1_loop.trips := by rw [trips_eq]; omega
    obtain ⟨b1, b2⟩ := trip_codes_ok 𝒱 c bd i arg1 harg1 arg2 harg2 arg3 harg3 arg4 harg4 arg5 harg5 v0 X ⟨n, hn'⟩
    obtain ⟨b3, b4⟩ := trip_amax_ok 𝒱 c bd i arg1 harg1 arg2 harg2 arg3 harg3 arg4 harg4 arg5 harg5 v0 X ⟨n, hn'⟩
    rw [show n + 1 = (⟨n, hn'⟩ : Fin k0_t1_loop.trips).val + 1 from rfl, pb_k0_t1_succ]
    refine ⟨fun pc h => ?_, fun y h => ?_, fun pc h => ?_, fun y h h' => ?_⟩
    · rcases List.mem_append.mp h with h | h
      · exact b1 pc h
      · exact a1 pc h
    · by_cases hy : (y 1).val < 256 * n
      · obtain ⟨pc, h1, h2⟩ := a2 y hy
        exact ⟨pc, List.mem_append_right _ h1, h2⟩
      · obtain ⟨pc, h1, h2⟩ := b2 y (by dsimp only at h ⊢; omega)
        exact ⟨pc, List.mem_append_left _ h1, h2⟩
    · rcases List.mem_append.mp h with h | h
      · exact b3 pc h
      · exact a3 pc h
    · by_cases hy : (y 0).val < 256 * n
      · obtain ⟨pc, h1, h2⟩ := a4 y hy h'
        exact ⟨pc, List.mem_append_right _ h1, h2⟩
      · obtain ⟨pc, h1, h2⟩ := b4 y (by dsimp only at h ⊢; omega) h'
        exact ⟨pc, List.mem_append_left _ h1, h2⟩

/-- After the loop the codes' block reads `cBlk`. -/
theorem read_codes (f : arg3.view.ty.Contents (Elt F)) :
    arg3.view.read (Elt F) (arg3.view.writes (Elt F) f (pb_k0_t1 (F := F) 𝒱 c bd i arg1 harg1 arg2 harg2 arg3 harg3 arg4 harg4 arg5 harg5 v0 (harg1.unread X) k0_t1_loop.trips).1) = cBlk X v0 := by
  funext y
  obtain ⟨a1, a2, -, -⟩ := pb_ok 𝒱 c bd i arg1 harg1 arg2 harg2 arg3 harg3 arg4 harg4 arg5 harg5 v0 X k0_t1_loop.trips (le_of_eq trips_eq)
  have h1 : (y 1).val < 1024 := (y 1).isLt
  exact View.read_writes_apply_of_pieces _ _ (cBlk X v0) _ a1 y (a2 y (by rw [trips_eq]; omega))

/-- After the loop the row maxima's first eight columns read `aBlk`. -/
theorem read_amax (f : arg5.view.ty.Contents (Elt F)) (y : S1024x128.Idx) (hy : (y 1).val < 8) :
    arg5.view.read (Elt F) (arg5.view.writes (Elt F) f (pb_k0_t1 (F := F) 𝒱 c bd i arg1 harg1 arg2 harg2 arg3 harg3 arg4 harg4 arg5 harg5 v0 (harg1.unread X) k0_t1_loop.trips).2) y = aBlk X v0 y := by
  obtain ⟨-, -, a3, a4⟩ := pb_ok 𝒱 c bd i arg1 harg1 arg2 harg2 arg3 harg3 arg4 harg4 arg5 harg5 v0 X k0_t1_loop.trips (le_of_eq trips_eq)
  have h0 : (y 0).val < 1024 := (y 0).isLt
  exact View.read_writes_apply_of_pieces _ _ (aBlk X v0) _ a3 y (a4 y (by rw [trips_eq]; omega) hy)

end Trip

end Cert.KernelIdeal.Hand

end
-- ==== Proof.Run.lean ====
/-
  The whole body's run on one block, with the values it leaves in the two output blocks.
-/
module

public import proofs.«01_k».proof.Proof.Pieces
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem hz2 : (![0, 0] : Fin 2 → ℕ) = fun _ => 0 := funext fun a => by fin_cases a <;> rfl

/-- Row maxima of 128 rows: rows `128 r ..` of the first 128 columns. -/
def awin (A : Vec F S1024x128 .f32) (r : ℕ) : Vec F S128x128 .f32 := fun y =>
  A (ix2 (⟨(128 * r + (y 0).val) % 1024, Nat.mod_lt _ (by decide)⟩ : Fin 1024) (y 1))

/-- The scales of one block of 1024 rows: group, row. -/
def sBlk (X : Vec F S1x1024x2048 .bf16) (p : Vec F S256x256 .bf16) : Vec F S1x8x1024 .f32 := fun j =>
  tileS (awin (aBlk X p) ((j 2).val / 128))
    (ix3 (0 : Fin 1) (j 1) (⟨(j 2).val % 128, Nat.mod_lt _ (by decide)⟩ : Fin 128))

/-- The scales of a tile read its first eight columns only. -/
theorem tileS_congr (t t' : Vec F S128x128 .f32) (h : ∀ (l : Fin 128) (g : Fin 128), g.val < 8 → t (ix2 l g) = t' (ix2 l g)) :
    tileS t = tileS t' := by
  have e : k0_pay76 t = k0_pay76 t' := by
    funext j
    have hj : (j 0).val < 8 := (j 0).isLt
    pointwise [k0_pay76]
    exact congrArg (fun z => FloatOps.mulf z (FloatOps.ofBits FTy.f32 0x3B124925#32)) (h (j 1) ⟨(j 0).val, by omega⟩ hj)
  unfold tileS
  rw [e]

theorem scales_piece (X : Vec F S1x1024x2048 .bf16) (p : Vec F S256x256 .bf16) (R : Vec F S1024x128 .f32)
    (hR : ∀ y : S1024x128.Idx, (y 1).val < 8 → R y = aBlk X p y) (r : ℕ) (hr : r < 8) (off : Fin 3 → ℕ) (off' : Fin 2 → ℕ) (inb) (inb')
    (ho : off = ![0, 0, 128 * r]) (ho' : off' = ![128 * r, 0])
    (x : (Rect.unit (s := S1x8x1024) off S1x8x128.size inb).shape.Idx) :
    tileS (View.ld R (Rect.unit (s := S1024x128) off' S128x128.size inb')) x
      = sBlk X p ((Rect.unit (s := S1x8x1024) off S1x8x128.size inb).emb x) := by
  have h0 : (x 0).val < 1 := (x 0).isLt
  have h2 : (x 2).val < 128 := (x 2).isLt
  have e1 : (((Rect.unit (s := S1x8x1024) off S1x8x128.size inb).emb x) 1).val = 0 + (x 1).val := by
    subst ho; exact Rect.idx_unit_val _ _ inb x 1
  have e2 : (((Rect.unit (s := S1x8x1024) off S1x8x128.size inb).emb x) 2).val = 128 * r + (x 2).val := by
    subst ho; exact Rect.idx_unit_val _ _ inb x 2
  unfold sBlk
  rw [show (((Rect.unit (s := S1x8x1024) off S1x8x128.size inb).emb x) 2).val / 128 = r by rw [e2]; omega]
  rw [tileS_congr (View.ld R (Rect.unit (s := S1024x128) off' S128x128.size inb')) (awin (aBlk X p) r) (fun l g hg => by
    unfold awin
    rw [← hR _ (by exact hg)]
    refine View.ld_unit_apply_of R _ _ inb' _ _ fun a => ?_
    have hl := l.isLt
    subst ho'
    match a with
    | ⟨0, _⟩ => show (128 * r + l.val) % 1024 = 128 * r + l.val; omega
    | ⟨1, _⟩ => show g.val = 0 + g.val; omega)]
  refine congrArg (tileS (awin (aBlk X p) r)) (funext fun a => Fin.ext ?_)
  match a with
  | ⟨0, _⟩ => show (x 0).val = 0; omega
  | ⟨1, _⟩ => show (x 1).val = (((Rect.unit (s := S1x8x1024) off S1x8x128.size inb).emb x) 1).val; rw [e1]; omega
  | ⟨2, _⟩ => show (x 2).val = (((Rect.unit (s := S1x8x1024) off S1x8x128.size inb).emb x) 2).val % 128; rw [e2]; omega

theorem scales_mem (r : ℕ) (off : Fin 3 → ℕ) (inb) (ho : off = ![0, 0, 128 * r]) (y : S1x8x1024.Idx)
    (hr : (y 2).val / 128 = r) : y ∈ (Rect.unit (s := S1x8x1024) off S1x8x128.size inb).set := by
  subst ho
  have h0 : (y 0).val < 1 := (y 0).isLt
  have h1 : (y 1).val < 8 := (y 1).isLt
  rw [Rect.mem_set_unit]
  intro a
  match a with
  | ⟨0, _⟩ => show 0 ≤ (y 0).val ∧ (y 0).val < 0 + 1; omega
  | ⟨1, _⟩ => show 0 ≤ (y 1).val ∧ (y 1).val < 0 + 8; omega
  | ⟨2, _⟩ => show 128 * r ≤ (y 2).val ∧ (y 2).val < 128 * r + 128; omega

/-- The eight stores of the scales, off row maxima whose first eight columns are `aBlk`'s, leave `sBlk`. -/
theorem read_scales (arg4 : Memref sig .tc .vmem S1x8x1024 .f32) (f : arg4.view.ty.Contents (Elt F))
    (X : Vec F S1x1024x2048 .bf16) (p : Vec F S256x256 .bf16) (R : Vec F S1024x128 .f32)
    (hR : ∀ y : S1024x128.Idx, (y 1).val < 8 → R y = aBlk X p y) :
    arg4.view.read (Elt F) (arg4.view.writes (Elt F) f [
        ⟨Rect.unit (s := S1x8x1024) ![0, 0, 896] S1x8x128.size inb_S1x8x1024_S1x8x128_0_0_896, tileS (View.ld R (Rect.unit (s := S1024x128) ![896, 0] S128x128.size inb_S1024x128_S128x128_896_0))⟩,
        ⟨Rect.unit (s := S1x8x1024) ![0, 0, 768] S1x8x128.size inb_S1x8x1024_S1x8x128_0_0_768, tileS (View.ld R (Rect.unit (s := S1024x128) ![768, 0] S128x128.size inb_S1024x128_S128x128_768_0))⟩,
        ⟨Rect.unit (s := S1x8x1024) ![0, 0, 640] S1x8x128.size inb_S1x8x1024_S1x8x128_0_0_640, tileS (View.ld R (Rect.unit (s := S1024x128) ![640, 0] S128x128.size inb_S1024x128_S128x128_640_0))⟩,
        ⟨Rect.unit (s := S1x8x1024) ![0, 0, 512] S1x8x128.size inb_S1x8x1024_S1x8x128_0_0_512, tileS (View.ld R (Rect.unit (s := S1024x128) ![512, 0] S128x128.size inb_S1024x128_S128x128_512_0))⟩,
        ⟨Rect.unit (s := S1x8x1024) ![0, 0, 384] S1x8x128.size inb_S1x8x1024_S1x8x128_0_0_384, tileS (View.ld R (Rect.unit (s := S1024x128) ![384, 0] S128x128.size inb_S1024x128_S128x128_384_0))⟩,
        ⟨Rect.unit (s := S1x8x1024) ![0, 0, 256] S1x8x128.size inb_S1x8x1024_S1x8x128_0_0_256, tileS (View.ld R (Rect.unit (s := S1024x128) ![256, 0] S128x128.size inb_S1024x128_S128x128_256_0))⟩,
        ⟨Rect.unit (s := S1x8x1024) ![0, 0, 128] S1x8x128.size inb_S1x8x1024_S1x8x128_0_0_128, tileS (View.ld R (Rect.unit (s := S1024x128) ![128, 0] S128x128.size inb_S1024x128_S128x128_128_0))⟩,
        ⟨Rect.unit (s := S1x8x1024) ![0, 0, 0] S1x8x128.size inb_S1x8x1024_S1x8x128_0_0_0, tileS (View.ld R (Rect.unit (s := S1024x128) ![0, 0] S128x128.size inb_S1024x128_S128x128_0_0))⟩]) = sBlk X p := by
  funext y
  have h2 : (y 2).val < 1024 := (y 2).isLt
  refine View.read_writes_apply_of_pieces _ _ (sBlk X p) _ ?_ y ?_
  · simp only [List.forall_mem_cons, List.not_mem_nil, false_implies, implies_true, and_true]
    exact ⟨scales_piece X p R hR 7 (by decide) _ _ _ _ rfl rfl, scales_piece X p R hR 6 (by decide) _ _ _ _ rfl rfl, scales_piece X p R hR 5 (by decide) _ _ _ _ rfl rfl, scales_piece X p R hR 4 (by decide) _ _ _ _ rfl rfl, scales_piece X p R hR 3 (by decide) _ _ _ _ rfl rfl, scales_piece X p R hR 2 (by decide) _ _ _ _ rfl rfl, scales_piece X p R hR 1 (by decide) _ _ _ _ rfl rfl, scales_piece X p R hR 0 (by decide) _ _ _ _ rfl rfl⟩
  · simp only [List.exists_mem_cons_iff, List.not_mem_nil, false_and, exists_false, or_false]
    have hg : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
    rcases hg with hg | hg | hg | hg | hg | hg | hg | hg
    · exact Or.inl (scales_mem 7 _ _ rfl y hg)
    · exact Or.inr (Or.inl (scales_mem 6 _ _ rfl y hg))
    · exact Or.inr (Or.inr (Or.inl (scales_mem 5 _ _ rfl y hg)))
    · exact Or.inr (Or.inr (Or.inr (Or.inl (scales_mem 4 _ _ rfl y hg))))
    · exact Or.inr (Or.inr (Or.inr (Or.inr (Or.inl (scales_mem 3 _ _ rfl y hg)))))
    · exact Or.inr (Or.inr (Or.inr (Or.inr (Or.inr (Or.inl (scales_mem 2 _ _ rfl y hg))))))
    · exact Or.inr (Or.inr (Or.inr (Or.inr (Or.inr (Or.inr (Or.inl (scales_mem 1 _ _ rfl y hg)))))))
    · exact Or.inr (Or.inr (Or.inr (Or.inr (Or.inr (Or.inr (Or.inr ((scales_mem 0 _ _ rfl y hg))))))))

set_option maxHeartbeats 1000000 in
/-- The body's triple: from the input blocks `x0` and `x1`, whatever the outputs' and the scratch's buffers hold, it leaves
    the codes' block at `cBlk x0 x1` and the scales' block at `sBlk x0 x1`. -/
theorem kernelRun0_A (c : Dev nD) (i : grid0.Coords) (arg1 : Memref sig .tc .vmem S1x1024x2048 .bf16) (harg1 : arg1.IsWhole) (arg2 : Memref sig .tc .vmem S256x256 .bf16) (harg2 : arg2.IsWhole) (arg3 : Memref sig .tc .vmem S1x1024x1024 .fp8e4m3) (harg3 : arg3.IsWhole) (arg4 : Memref sig .tc .vmem S1x8x1024 .f32) (harg4 : arg4.IsWhole) (arg5 : Memref sig .tc .vmem S1024x128 .f32) (harg5 : arg5.IsWhole)
    (x0 : Vec F S1x1024x2048 .bf16) (x1 : Vec F S256x256 .bf16) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare (cBlk x0 x1) ∗ owns (c : Thread nD τ) arg4 fullShare (sBlk x0 x1) ∗ (∃ d, owns (c : Thread nD τ) arg5 fullShare d)) -∗ K ⟨⟩))
          ⊢ wp frame (wpE (defs₀ (F := F)) Variants.none c none) E (cc0_swiglu_fp8 i arg1 harg1 arg2 harg2 arg3 harg3 arg4 harg4 arg5 harg5) K := by
    intro E K
    simp only [cc0_swiglu_fp8_eq_skeleton]; unfold cc0_swiglu_fp8_skel
    simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    sl_unfold_words
    have hp : View.readAt (Elt F) arg2.view (Rect.unit (s := S256x256) ![0, 0] S256x256.size inb_S256x256_S256x256_0_0).toLoadRect (harg2.unread x1) = x1 := by
      rw [View.readAt_eq_ld, harg2.read_unread, View.ld_unit_zero (S := S256x256) hz2]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [hp]
      exact read_codes (F := F) Variants.none c none i arg1 harg1 arg2 harg2 arg3 harg3 arg4 harg4 arg5 harg5 x1 x0 _
    isplitl [H3]
    · iexists _; isplitr; swap; · iexact H3
      ipureintro
      rw [hp]
      exact read_scales arg4 _ x0 x1 _ (read_amax (F := F) Variants.none c none i arg1 harg1 arg2 harg2 arg3 harg3 arg4 harg4 arg5 harg5 x1 x0 fs0)
    iexists _, _; isplitr; swap; · iexact HS0
    ipureintro; rfl

end Cert.KernelIdeal.Hand

end
-- ==== Proof.Value.lean ====
module

public import proofs.«01_k».proof.Proof.Run
public import proofs.«01_k».proof.Proof.Gen.KernelIdeal.Frame
public import Idealize.ShloMosaic.Lib.Pipeline.Value
public import Idealize.ShloMosaic.Lib.Quiescent

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data, with the outputs named -/

/-- The proof data of the pipeline on core `c`: each input's buffer keeps its block, and the body leaves the blocks of
    codes and of scales that the kernel computes from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cBlk (F := F) (iblk m c 0 t) (iblk m c 1 t)
    | ⟨3, _⟩ => sBlk (F := F) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = cBlk (F := F) (iblk m c 0 t) (iblk m c 1 t) := by dsimp only [dats]
theorem after0_3 (c : Dev nD) (t : Fin cfg0.N) :
    (dats m 0 c).after 3 t = sBlk (F := F) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: its triple, at the input blocks of that point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t) (iblk m c 1 t)) Set.univ _)
  isplitl [H0]; · iexact H0
  isplitl [H1]; · iexact H1
  isplitl [H2]; · iexists _; iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every array of the pipeline ends at the proof data's contents, every other buffer at what the lines after
    the region leave, and every semaphore counter reads zero. -/
theorem run_main : θ_run defs (onTc (τ := τ) (main (F := F))) (s₀ m ρ) (fun r =>
    (Pipeline.FramePost cfgs (dats m) 0 (Pipeline.afterTail₀ cfgs (dats m) 0 (V0 m) [hostOps1]) r) ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The permutation matrix, as the host's literal table spells it. -/
def perm : Vec F S256x256 .bf16 := fun i => FloatOps.ofBits .bf16 (lit0 (S256x256.rowMajor i))

/-- Batch row `b` of the packed input. -/
def xrow (x : Vec F S72x1024x2048 .bf16) (b : Fin 72) : Vec F S1x1024x2048 .bf16 :=
  fun j => x (ix3 b ⟨(j 1).val, (j 1).isLt⟩ ⟨(j 2).val, (j 2).isLt⟩)

/-- The codes the kernel computes from an input. -/
def codesOf (x : Vec F S72x1024x2048 .bf16) : Vec F S72x1024x1024 .fp8e4m3 := fun i =>
  cBlk (xrow x ⟨(i 0).val, (i 0).isLt⟩) perm (ix3 0 ⟨(i 1).val, (i 1).isLt⟩ ⟨(i 2).val, (i 2).isLt⟩)

/-- The scales the kernel computes from an input, one row of 1024 tokens per group. -/
def scalesOf (x : Vec F S72x1024x2048 .bf16) : Vec F S72x8x1024 .f32 := fun i =>
  sBlk (xrow x ⟨(i 0).val, (i 0).isLt⟩) perm (ix3 0 ⟨(i 1).val, (i 1).isLt⟩ ⟨(i 2).val, (i 2).isLt⟩)

/-- The packed input on core `c`. -/
abbrev argOf (c : Dev nD) : Vec F S72x1024x2048 .bf16 := m ((c.tc : Thread nD τ).loc main_arg0)

/-- At point `t` each window over the batch is at block `t`, and the matrix's window never moves. -/
theorem idx0 (t : Fin cfg0.N) : win0_0.index t 0 = t.val ∧ win0_0.index t 1 = 0 ∧ win0_0.index t 2 = 0 := by
  revert t; decide +kernel
theorem idx1 (t : Fin cfg0.N) : win0_1.index t 0 = 0 ∧ win0_1.index t 1 = 0 := by
  revert t; decide +kernel
theorem idx2 (t : Fin cfg0.N) : win0_2.index t 0 = t.val ∧ win0_2.index t 1 = 0 ∧ win0_2.index t 2 = 0 := by
  revert t; decide +kernel
theorem idx3 (t : Fin cfg0.N) : win0_3.index t 0 = t.val ∧ win0_3.index t 1 = 0 ∧ win0_3.index t 2 = 0 := by
  revert t; decide +kernel

/-- The input's block at point `t` is batch row `t`. -/
theorem iblk0_eq (c : Dev nD) (t : Fin cfg0.N) (ht : t.val < 72) :
    (iblk m c 0 t : Vec F S1x1024x2048 .bf16) = xrow (argOf m c) ⟨t.val, ht⟩ := by
  obtain ⟨h0, h1, h2⟩ := idx0 t
  funext j
  have j0 : (j 0).val < 1 := (j 0).isLt
  unfold iblk xrow argOf
  rw [View.read_apply]
  show V m c main_arg0 _ = m (c.tc.loc main_arg0) _
  rw [V_main_arg0]
  congr 1
  funext a
  apply Fin.ext
  match a with
  | ⟨0, _⟩ => show win0_0.index t 0 * 1 + 1 * (j 0).val = t.val; rw [h0]; omega
  | ⟨1, _⟩ => show win0_0.index t 1 * 1024 + 1 * (j 1).val = (j 1).val; rw [h1]; omega
  | ⟨2, _⟩ => show win0_0.index t 2 * 2048 + 1 * (j 2).val = (j 2).val; rw [h2]; omega

/-- The region finds the permutation matrix in its buffer. -/
theorem V_main_cst (c : Dev nD) : V m c main_cst = (perm : Vec F S256x256 .bf16) := by
  unfold V V0
  simp only [hostOps0, List.flatten_cons, List.flatten_nil, List.append_nil, StableHlo.after_cons, StableHlo.after_nil]
  exact StableHlo.nullary_result main_cst _ _ _

/-- The matrix's block is the matrix, at every point. -/
theorem iblk1_eq (c : Dev nD) (t : Fin cfg0.N) :
    (iblk m c 1 t : Vec F S256x256 .bf16) = perm := by
  obtain ⟨h0, h1⟩ := idx1 t
  funext j
  unfold iblk
  rw [View.read_apply]
  refine (congrFun (V_main_cst m c) _).trans (congrArg perm ?_)
  funext a
  apply Fin.ext
  match a with
  | ⟨0, _⟩ => show win0_1.index t 0 * 256 + 1 * (j 0).val = (j 0).val; rw [h0]; omega
  | ⟨1, _⟩ => show win0_1.index t 1 * 256 + 1 * (j 1).val = (j 1).val; rw [h1]; omega

theorem codesOf_of (x : Vec F S72x1024x2048 .bf16) (b : Fin 72) (i : S72x1024x1024.Idx) (j : S1x1024x1024.Idx)
    (h0 : (i 0).val = b.val) (h1 : (i 1).val = (j 1).val) (h2 : (i 2).val = (j 2).val) :
    codesOf x i = cBlk (xrow x b) perm j := by
  have j0 : (j 0).val < 1 := (j 0).isLt
  unfold codesOf
  rw [show (⟨(i 0).val, (i 0).isLt⟩ : Fin 72) = b from Fin.ext h0]
  congr 1
  funext a
  apply Fin.ext
  match a with
  | ⟨0, _⟩ => show 0 = (j 0).val; omega
  | ⟨1, _⟩ => exact h1
  | ⟨2, _⟩ => exact h2

theorem scalesOf_of (x : Vec F S72x1024x2048 .bf16) (b : Fin 72) (i : S72x8x1024.Idx) (j : S1x8x1024.Idx)
    (h0 : (i 0).val = b.val) (h1 : (i 1).val = (j 1).val) (h2 : (i 2).val = (j 2).val) :
    scalesOf x i = sBlk (xrow x b) perm j := by
  have j0 : (j 0).val < 1 := (j 0).isLt
  unfold scalesOf
  rw [show (⟨(i 0).val, (i 0).isLt⟩ : Fin 72) = b from Fin.ext h0]
  congr 1
  funext a
  apply Fin.ext
  match a with
  | ⟨0, _⟩ => show 0 = (j 0).val; omega
  | ⟨1, _⟩ => exact h1
  | ⟨2, _⟩ => exact h2

/-- What point `t` writes back of the codes. -/
theorem flushed2 (c : Dev nD) (t : Fin cfg0.N) (hf : (cfg0.win 2).flush t = true) :
    (dats m 0 c).flushed 2 t = ((cfg0.win 2).blk t).view.read (Elt F) (codesOf (argOf m c)) := by
  have ht : t.val < 72 := lt_of_lt_of_eq t.isLt N_0
  obtain ⟨h0, h1, h2⟩ := idx2 t
  show (cfg0.win 2).cut (grid0.coords t) ((dats m 0 c).after 2 t) = _
  rw [after0_2, iblk0_eq m c t ht, iblk1_eq]
  funext j
  have j0 : (j 0).val < 1 := (j 0).isLt
  rw [View.read_apply]
  refine (codesOf_of (argOf m c) ⟨t.val, ht⟩ _ j ?_ ?_ ?_).symm
  · show win0_2.index t 0 * 1 + 1 * (j 0).val = t.val; rw [h0]; omega
  · show win0_2.index t 1 * 1024 + 1 * (j 1).val = (j 1).val; rw [h1]; omega
  · show win0_2.index t 2 * 1024 + 1 * (j 2).val = (j 2).val; rw [h2]; omega

/-- What point `t` writes back of the scales. -/
theorem flushed3 (c : Dev nD) (t : Fin cfg0.N) (hf : (cfg0.win 3).flush t = true) :
    (dats m 0 c).flushed 3 t = ((cfg0.win 3).blk t).view.read (Elt F) (scalesOf (argOf m c)) := by
  have ht : t.val < 72 := lt_of_lt_of_eq t.isLt N_0
  obtain ⟨h0, h1, h2⟩ := idx3 t
  show (cfg0.win 3).cut (grid0.coords t) ((dats m 0 c).after 3 t) = _
  rw [after0_3, iblk0_eq m c t ht, iblk1_eq]
  funext j
  have j0 : (j 0).val < 1 := (j 0).isLt
  rw [View.read_apply]
  refine (scalesOf_of (argOf m c) ⟨t.val, ht⟩ _ j ?_ ?_ ?_).symm
  · show win0_3.index t 0 * 1 + 1 * (j 0).val = t.val; rw [h0]; omega
  · show win0_3.index t 1 * 8 + 1 * (j 1).val = (j 1).val; rw [h1]; omega
  · show win0_3.index t 2 * 1024 + 1 * (j 2).val = (j 2).val; rw [h2]; omega

/-- So the codes' array ends holding the codes of the input. -/
theorem final_codes (c : Dev nD) : (dats m 0 c).arrAt 2 cfg0.N = codesOf (argOf m c) :=
  (dats m 0 c).arrAt_eq_of_cover 2 (codesOf (argOf m c)) (flushed2 m c) fun i =>
    ⟨⟨(i 0).val, lt_of_lt_of_eq (i 0).isLt N_0.symm⟩, flush0_2 _, by
      show i ∈ ((View.whole main_v0_0).slice (win0_2.rect (⟨(i 0).val, lt_of_lt_of_eq (i 0).isLt N_0.symm⟩ : Fin cfg0.N))).set
      rw [View.set_slice_whole, Rect.mem_set_unit]
      obtain ⟨h0, h1, h2⟩ := idx2 ⟨(i 0).val, lt_of_lt_of_eq (i 0).isLt N_0.symm⟩
      have i1 : (i 1 : Nat) < 1024 := (i 1).isLt
      have i2 : (i 2 : Nat) < 1024 := (i 2).isLt
      intro a
      match a with
      | ⟨0, _⟩ => show win0_2.index _ 0 * 1 ≤ (i 0 : Nat) ∧ (i 0 : Nat) < win0_2.index _ 0 * 1 + 1
                  rw [h0]; dsimp only; omega
      | ⟨1, _⟩ => show win0_2.index _ 1 * 1024 ≤ (i 1 : Nat) ∧ (i 1 : Nat) < win0_2.index _ 1 * 1024 + 1024
                  rw [h1]; omega
      | ⟨2, _⟩ => show win0_2.index _ 2 * 1024 ≤ (i 2 : Nat) ∧ (i 2 : Nat) < win0_2.index _ 2 * 1024 + 1024
                  rw [h2]; omega⟩

/-- And the scales' array the scales. -/
theorem final_scales (c : Dev nD) : (dats m 0 c).arrAt 3 cfg0.N = scalesOf (argOf m c) :=
  (dats m 0 c).arrAt_eq_of_cover 3 (scalesOf (argOf m c)) (flushed3 m c) fun i =>
    ⟨⟨(i 0).val, lt_of_lt_of_eq (i 0).isLt N_0.symm⟩, flush0_3 _, by
      show i ∈ ((View.whole main_v0_1).slice (win0_3.rect (⟨(i 0).val, lt_of_lt_of_eq (i 0).isLt N_0.symm⟩ : Fin cfg0.N))).set
      rw [View.set_slice_whole, Rect.mem_set_unit]
      obtain ⟨h0, h1, h2⟩ := idx3 ⟨(i 0).val, lt_of_lt_of_eq (i 0).isLt N_0.symm⟩
      have i1 : (i 1 : Nat) < 8 := (i 1).isLt
      have i2 : (i 2 : Nat) < 1024 := (i 2).isLt
      intro a
      match a with
      | ⟨0, _⟩ => show win0_3.index _ 0 * 1 ≤ (i 0 : Nat) ∧ (i 0 : Nat) < win0_3.index _ 0 * 1 + 1
                  rw [h0]; dsimp only; omega
      | ⟨1, _⟩ => show win0_3.index _ 1 * 8 ≤ (i 1 : Nat) ∧ (i 1 : Nat) < win0_3.index _ 1 * 8 + 8
                  rw [h1]; omega
      | ⟨2, _⟩ => show win0_3.index _ 2 * 1024 ≤ (i 2 : Nat) ∧ (i 2 : Nat) < win0_3.index _ 2 * 1024 + 1024
                  rw [h2]; omega⟩

/-- The line after the region transposes the scales. -/
theorem tail_eq (c : Dev nD) : Pipeline.afterTail₀ cfgs (dats m) 0 (V0 m) [hostOps1] c main_v1
    = transpose S72x1024x8 [0, 2, 1] (scalesOf (argOf m c)) transposes_S72x8x1024_S72x1024x8_0_2_1 := by
  unfold Pipeline.afterTail₀
  simp only [hostOps1, List.flatten_cons, List.flatten_nil, List.append_nil, StableHlo.after_cons, StableHlo.after_nil]
  refine (StableHlo.unary_result main_v0_1 main_v1 _ _ _ _).trans ?_
  refine congrArg (fun x : Vec F S72x8x1024 .f32 => transpose S72x1024x8 [0, 2, 1] x transposes_S72x8x1024_S72x1024x8_0_2_1) ?_
  exact (Pipeline.withArrays_arr spec0 launch0.win.arr_inj c _ _ 3).trans (final_scales m c)

/-- The run, read: both results and the argument, and every semaphore counter at zero. -/
theorem run : θ_run defs (onTc (τ := τ) (main (F := F))) ⟨m, fun _ => 0, ρ⟩ (fun r => (∀ c : Dev nD,
      r.2.mem ((c.tc : Thread nD τ).loc main_v0_0) = codesOf (argOf m c)
      ∧ r.2.mem ((c.tc : Thread nD τ).loc main_v1)
          = transpose S72x1024x8 [0, 2, 1] (scalesOf (argOf m c)) transposes_S72x8x1024_S72x1024x8_0_2_1
      ∧ r.2.mem ((c.tc : Thread nD τ).loc main_arg0) = m ((c.tc : Thread nD τ).loc main_arg0))
      ∧ r.2.sem = fun _ => 0) :=
  (θ_run defs _ _).mono (fun r h => ⟨fun c => ⟨((h.1 c).1 2).trans (final_codes m c),
      ((h.1 c).2 main_v1 (by decide)).trans (tail_eq m c),
      (((h.1 c).1 0).trans ((dats m 0 c).arrAt_in 0 rfl _)).trans ((A_eq m c 0).trans (V_main_arg0 m c))⟩, h.2⟩)
    (run_main m ρ)

end Cert.KernelIdeal.Hand

end
-- ==== Proof.Scalars.lean ====
/-
  The scalars: over the extended reals the field search and the power words compute what the logarithm and the powers of the
  reference compute, and the two spellings of the logistic function agree.
-/
module

public import Idealize.ShloMosaic.Lib.Pointwise

@[expose] public section

set_option maxRecDepth 16384
noncomputable section

namespace Cert.Scalars

open Idealize.ShloMosaic

/-! ## The field search on words -/

/-- One step of the search against a threshold: bit `b` is kept unless the threshold is below `n | b`. -/
def gstep (N : ℕ) (n b : BitVec 32) : BitVec 32 := if N < (n ||| b).toNat then n else n ||| b

/-- Eight steps find any threshold below 256. -/
theorem gsearch (N : Fin 256) :
    gstep N (gstep N (gstep N (gstep N (gstep N (gstep N (gstep N (gstep N 0#32 128#32) 64#32) 32#32) 16#32) 8#32) 4#32) 2#32) 1#32
      = BitVec.ofNat 32 N.val := by
  revert N; decide +kernel

/-- One step of the search on a value. -/
def sstep (v : EReal) (n b : BitVec 32) : BitVec 32 :=
  if v < Ideal.ofBits .f32 (IntOp.shli ArithUnit.vector (IntOp.ori n b) 23#32) then n else IntOp.ori n b

/-- The search on a value. -/
def sfield (v : EReal) : BitVec 32 :=
  sstep v (sstep v (sstep v (sstep v (sstep v (sstep v (sstep v (sstep v 0#32 128#32) 64#32) 32#32) 16#32) 8#32) 4#32) 2#32) 1#32

theorem gstep_lt (N : ℕ) (n b : BitVec 32) (hn : n.toNat < 256) (hb : b.toNat < 256) : (gstep N n b).toNat < 256 := by
  unfold gstep
  split
  · exact hn
  · rw [BitVec.toNat_or]; exact Nat.or_lt_two_pow (n := 8) hn hb

theorem sstep_eq (v : EReal) (N : ℕ) (h : ∀ w : BitVec 32, 0 < w.toNat → w.toNat < 256 →
      (v < Ideal.ofBits .f32 (IntOp.shli ArithUnit.vector w 23#32) ↔ N < w.toNat))
    (n b : BitVec 32) (hn : n.toNat < 256) (hb : b.toNat < 256) (hb0 : 0 < b.toNat) : sstep v n b = gstep N n b := by
  have h1 : (n ||| b).toNat < 256 := by rw [BitVec.toNat_or]; exact Nat.or_lt_two_pow (n := 8) hn hb
  have h0 : 0 < (n ||| b).toNat := by
    rw [BitVec.toNat_or]; exact lt_of_lt_of_le hb0 Nat.right_le_or
  unfold sstep gstep
  rw [show IntOp.ori n b = n ||| b from rfl]
  by_cases hc : N < (n ||| b).toNat
  · rw [if_pos hc, if_pos ((h (n ||| b) h0 h1).2 hc)]
  · rw [if_neg hc, if_neg (fun hv => hc ((h (n ||| b) h0 h1).1 hv))]

/-- The search finds the number of words not above the value. -/
theorem sfield_eq (v : EReal) (N : Fin 256) (h : ∀ w : BitVec 32, 0 < w.toNat → w.toNat < 256 →
      (v < Ideal.ofBits .f32 (IntOp.shli ArithUnit.vector w 23#32) ↔ N.val < w.toNat)) : sfield v = BitVec.ofNat 32 N.val := by
  rw [← gsearch N]
  unfold sfield
  have d0 : (0#32).toNat < 256 := by decide
  rw [sstep_eq v N h 0#32 128#32 d0 (by decide) (by decide)]
  have d1 := gstep_lt N 0#32 128#32 d0 (by decide)
  generalize gstep N 0#32 128#32 = n1 at d1 ⊢
  rw [sstep_eq v N h n1 64#32 d1 (by decide) (by decide)]
  have d2 := gstep_lt N n1 64#32 d1 (by decide)
  generalize gstep N n1 64#32 = n2 at d2 ⊢
  rw [sstep_eq v N h n2 32#32 d2 (by decide) (by decide)]
  have d3 := gstep_lt N n2 32#32 d2 (by decide)
  generalize gstep N n2 32#32 = n3 at d3 ⊢
  rw [sstep_eq v N h n3 16#32 d3 (by decide) (by decide)]
  have d4 := gstep_lt N n3 16#32 d3 (by decide)
  generalize gstep N n3 16#32 = n4 at d4 ⊢
  rw [sstep_eq v N h n4 8#32 d4 (by decide) (by decide)]
  have d5 := gstep_lt N n4 8#32 d4 (by decide)
  generalize gstep N n4 8#32 = n5 at d5 ⊢
  rw [sstep_eq v N h n5 4#32 d5 (by decide) (by decide)]
  have d6 := gstep_lt N n5 4#32 d5 (by decide)
  generalize gstep N n5 4#32 = n6 at d6 ⊢
  rw [sstep_eq v N h n6 2#32 d6 (by decide) (by decide)]
  have d7 := gstep_lt N n6 2#32 d6 (by decide)
  generalize gstep N n6 2#32 = n7 at d7 ⊢
  rw [sstep_eq v N h n7 1#32 d7 (by decide) (by decide)]

/-! ## The words of the powers of two -/

theorem word_fields : ∀ k : Fin 256, ((IntOp.shli ArithUnit.vector (BitVec.ofNat 32 k.val) 23#32).extractLsb' 23 8).toNat = k.val
    ∧ ((IntOp.shli ArithUnit.vector (BitVec.ofNat 32 k.val) 23#32).extractLsb' 0 23).toNat = 0
    ∧ ((IntOp.shli ArithUnit.vector (BitVec.ofNat 32 k.val) 23#32).extractLsb' 31 1 == 1#1) = false := by
  decide +kernel

/-- A word with the sign clear and no fraction, of biased exponent `k`, is `2 ^ (k - 127)`. -/
theorem val_of_fields (w : BitVec 32) (k : ℕ) (h0 : 0 < k) (h1 : k < 255) (ha : (w.extractLsb' 23 8).toNat = k)
    (hb : (w.extractLsb' 0 23).toNat = 0) (hc : (w.extractLsb' 31 1 == 1#1) = false) :
    Ideal.ieee 8 23 w = (((2 : ℝ) ^ ((k : ℤ) - 127) : ℝ) : EReal) := by
  have e1 : ¬ k = 2 ^ 8 - 1 := by omega
  have e2 : ¬ k = 0 := by omega
  unfold Ideal.ieee
  simp only [show (8 + 23 : ℕ) = 31 from rfl, ha, hb, hc, if_neg e1, if_neg e2]
  refine congrArg (fun t : ℝ => (t : EReal)) ?_
  have e3 : (2 : ℝ) ^ ((k : ℤ) - 127) = (2 : ℝ) ^ (23 : ℤ) * (2 : ℝ) ^ ((k : ℤ) - 127 - 23) := by
    rw [← zpow_add₀ (by norm_num)]; congr 1; ring
  rw [e3]
  norm_num

/-- The word `k << 23` is `2 ^ (k - 127)`, for a biased exponent `k` of a normal number. -/
theorem word_val (k : ℕ) (h0 : 0 < k) (h1 : k < 255) :
    Ideal.ofBits .f32 (IntOp.shli ArithUnit.vector (BitVec.ofNat 32 k) 23#32) = (((2 : ℝ) ^ ((k : ℤ) - 127) : ℝ) : EReal) := by
  obtain ⟨ha, hb, hc⟩ := word_fields ⟨k, by omega⟩
  exact val_of_fields _ k h0 h1 ha hb hc

theorem top_of_fields (w : BitVec 32) (ha : (w.extractLsb' 23 8).toNat = 255)
    (hb : (w.extractLsb' 0 23).toNat = 0) (hc : (w.extractLsb' 31 1 == 1#1) = false) : Ideal.ieee 8 23 w = ⊤ := by
  unfold Ideal.ieee
  simp only [show (8 + 23 : ℕ) = 31 from rfl, ha, hb, hc]
  simp

/-- The word `255 << 23` is the top. -/
theorem word_top : Ideal.ofBits .f32 (IntOp.shli ArithUnit.vector (BitVec.ofNat 32 255) 23#32) = (⊤ : EReal) := by
  obtain ⟨ha, hb, hc⟩ := word_fields 255
  exact top_of_fields _ ha hb hc

theorem tiny_val : Ideal.ofBits .f32 0x00800000#32 = (((2 : ℝ) ^ (-126 : ℤ) : ℝ) : EReal) := by
  rw [show (0x00800000#32 : BitVec 32) = IntOp.shli ArithUnit.vector (BitVec.ofNat 32 1) 23#32 from by decide, word_val 1 (by omega) (by omega)]
  norm_num

theorem two_val : Ideal.ofBits .f32 0x40000000#32 = ((2 : ℝ) : EReal) := by
  rw [show (0x40000000#32 : BitVec 32) = IntOp.shli ArithUnit.vector (BitVec.ofNat 32 128) 23#32 from by decide, word_val 128 (by omega) (by omega)]
  norm_num

/-! ## The field of a value -/

/-- The field of a value below the smallest normal number is 0. -/
theorem sfield_small (v : EReal) (hv : v < (((2 : ℝ) ^ (-126 : ℤ) : ℝ) : EReal)) : sfield v = 0#32 := by
  refine sfield_eq v 0 fun w h0 h1 => ?_
  refine iff_of_true ?_ h0
  have hw : w = BitVec.ofNat 32 w.toNat := by simp
  rw [hw]
  by_cases h : w.toNat = 255
  · rw [h, word_top]; exact lt_of_lt_of_le hv le_top
  · rw [word_val _ h0 (by omega)]
    refine lt_of_lt_of_le hv (EReal.coe_le_coe_iff.2 ?_)
    exact zpow_le_zpow_right₀ (by norm_num) (by omega)

/-- A positive real is below `2 ^ j` when its binary logarithm, rounded down, is below `j`. -/
theorem lt_zpow_iff (r : ℝ) (hr : 0 < r) (j : ℤ) : r < (2 : ℝ) ^ j ↔ ⌊Real.log r / Real.log 2⌋ < j := by
  have h2 : 0 < Real.log 2 := Real.log_pos (by norm_num)
  rw [Int.floor_lt, div_lt_iff₀ h2, ← Real.log_zpow, Real.log_lt_log_iff hr (by positivity)]

/-- The field of a real in the normal range is its binary logarithm, rounded down and biased. -/
theorem sfield_normal (r : ℝ) (h0 : (2 : ℝ) ^ (-126 : ℤ) ≤ r) (h1 : r < (2 : ℝ) ^ (128 : ℤ)) :
    ∃ k : ℕ, 0 < k ∧ k < 255 ∧ ⌊Real.log r / Real.log 2⌋ = (k : ℤ) - 127 ∧ sfield (r : EReal) = BitVec.ofNat 32 k := by
  have hr : 0 < r := lt_of_lt_of_le (by positivity) h0
  have ha : -126 ≤ ⌊Real.log r / Real.log 2⌋ := by
    by_contra hc
    exact absurd ((lt_zpow_iff r hr (-126)).2 (by omega)) (not_lt.2 h0)
  have hb := (lt_zpow_iff r hr 128).1 h1
  obtain ⟨k, hk⟩ : ∃ k : ℕ, (k : ℤ) = ⌊Real.log r / Real.log 2⌋ + 127 := ⟨(⌊Real.log r / Real.log 2⌋ + 127).toNat, by omega⟩
  refine ⟨k, by omega, by omega, by omega, ?_⟩
  refine sfield_eq (r : EReal) ⟨k, by omega⟩ fun w g0 g1 => ?_
  have hw : w = BitVec.ofNat 32 w.toNat := by simp
  by_cases h : w.toNat = 255
  · rw [hw, h, word_top]
    refine iff_of_true (EReal.coe_lt_top r) ?_
    show k < 255
    omega
  · have := lt_zpow_iff r hr ((w.toNat : ℤ) - 127)
    rw [show (r : EReal) < Ideal.ofBits .f32 (IntOp.shli ArithUnit.vector w 23#32) ↔ r < (2 : ℝ) ^ ((w.toNat : ℤ) - 127) from by
      conv_lhs => rw [hw]
      rw [word_val _ g0 (by omega), EReal.coe_lt_coe_iff], this]
    dsimp only
    omega

/-! ## The powers the kernel and the reference multiply by -/

/-- The kernel's exponent of a value. -/
def sexpo (v : EReal) : BitVec 32 :=
  Scalar.select (IntOp.cmpi CmpIPredicate.eq (sfield v) 0#32) (0#32) (IntOp.subi (sfield v) 126#32)

/-- The kernel's power of two, a word. -/
def spow (e : BitVec 32) : EReal := Ideal.ofBits .f32 (IntOp.shli ArithUnit.vector (IntOp.addi e 127#32) 23#32)

/-- The reference's exponent of a value. -/
def rexp (v : EReal) : EReal :=
  if v < Ideal.ofBits .f32 0x00800000#32 then 0 else
    Ideal.liftRound Int.floor (Ideal.div (Ideal.log v) (Ideal.log (Ideal.ofBits .f32 0x40000000#32))) + 1

/-- The reference's power of two. -/
def rpow (e : EReal) : EReal := Ideal.pow (Ideal.ofBits .f32 0x40000000#32) e

theorem word_up : ∀ k : Fin 256, 0 < k.val → IntOp.addi (Scalar.select (IntOp.cmpi CmpIPredicate.eq (BitVec.ofNat 32 k.val) 0#32) (0#32)
    (IntOp.subi (BitVec.ofNat 32 k.val) 126#32)) 127#32 = BitVec.ofNat 32 (k.val + 1) := by decide +kernel

theorem word_down : ∀ k : Fin 253, 0 < k.val → IntOp.addi (IntOp.subi 0#32 (Scalar.select (IntOp.cmpi CmpIPredicate.eq (BitVec.ofNat 32 k.val) 0#32) (0#32)
    (IntOp.subi (BitVec.ofNat 32 k.val) 126#32))) 127#32 = BitVec.ofNat 32 (253 - k.val) := by decide +kernel

theorem rpow_int (n : ℤ) : rpow (((n : ℤ) : ℝ) : EReal) = (((2 : ℝ) ^ n : ℝ) : EReal) := by
  unfold rpow
  rw [two_val]
  show ((Real.rpow 2 (n : ℝ) : ℝ) : EReal) = _
  exact congrArg (fun t : ℝ => (t : EReal)) (Real.rpow_intCast 2 n)

theorem rexp_small (v : EReal) (hv : v < Ideal.ofBits .f32 0x00800000#32) : rexp v = (((0 : ℤ) : ℝ) : EReal) := by
  unfold rexp; rw [if_pos hv]; simp

theorem rexp_normal (r : ℝ) (hr : 0 < r) (hv : ¬ (r : EReal) < Ideal.ofBits .f32 0x00800000#32) :
    rexp (r : EReal) = (((⌊Real.log r / Real.log 2⌋ + 1 : ℤ) : ℝ) : EReal) := by
  have h2 : 0 < Real.log 2 := Real.log_pos (by norm_num)
  unfold rexp
  rw [if_neg hv, two_val]
  have e1 : Ideal.log (r : EReal) = ((Real.log r : ℝ) : EReal) := by
    show (if r ≤ 0 then (⊥ : EReal) else (Real.log r : EReal)) = _
    rw [if_neg (not_le.2 hr)]
  have e2 : Ideal.log ((2 : ℝ) : EReal) = ((Real.log 2 : ℝ) : EReal) := by
    show (if (2 : ℝ) ≤ 0 then (⊥ : EReal) else (Real.log 2 : EReal)) = _
    rw [if_neg (by norm_num)]
  have e3 : Ideal.div ((Real.log r : ℝ) : EReal) ((Real.log 2 : ℝ) : EReal) = ((Real.log r / Real.log 2 : ℝ) : EReal) := by
    unfold Ideal.div
    rw [if_neg (by simpa using h2.ne'), ← EReal.coe_inv, ← EReal.coe_mul]; rfl
  rw [e1, e2, e3]
  show (((⌊Real.log r / Real.log 2⌋ : ℝ) : EReal)) + 1 = _
  push_cast
  rfl

/-- Below `2 ^ 126` the kernel's two words are the reference's two powers. -/
theorem pow_ok (v : EReal) (h1 : v < (((2 : ℝ) ^ (126 : ℤ) : ℝ) : EReal)) :
    spow (sexpo v) = rpow (rexp v) ∧ spow (IntOp.subi 0#32 (sexpo v)) = rpow (-rexp v) := by
  by_cases hv : v < Ideal.ofBits .f32 0x00800000#32
  · have hs : sfield v = 0#32 := sfield_small v (by rw [← tiny_val]; exact hv)
    have e0 : sexpo v = 0#32 := by unfold sexpo; rw [hs]; decide
    rw [rexp_small v hv, e0, rpow_int, ← EReal.coe_neg, ← Int.cast_neg, rpow_int]
    have e1 : IntOp.addi (0#32) 127#32 = BitVec.ofNat 32 127 := by decide
    have e2 : IntOp.addi (IntOp.subi 0#32 0#32) 127#32 = BitVec.ofNat 32 127 := by decide
    unfold spow
    rw [e1, e2, word_val 127 (by omega) (by omega)]
    norm_num
  · have hn := hv
    rw [tiny_val] at hn
    obtain ⟨r, rfl⟩ : ∃ r : ℝ, v = (r : EReal) := by
      induction v with
      | bot => exact absurd (EReal.bot_lt_coe _) hn
      | top => exact absurd h1 (not_lt.2 le_top)
      | coe r => exact ⟨r, rfl⟩
    rw [EReal.coe_lt_coe_iff] at hn h1
    have hr : 0 < r := lt_of_lt_of_le (by positivity) (not_lt.1 hn)
    have hk2 := (lt_zpow_iff r hr 126).1 h1
    obtain ⟨k, k0, k1, hk, hs⟩ := sfield_normal r (not_lt.1 hn) (lt_of_lt_of_le h1 (zpow_le_zpow_right₀ (by norm_num) (by norm_num)))
    rw [rexp_normal r hr hv, hk, rpow_int, ← EReal.coe_neg, ← Int.cast_neg, rpow_int]
    have e1 := word_up ⟨k, by omega⟩ k0
    have e2 := word_down ⟨k, by omega⟩ k0
    dsimp only at e1 e2
    unfold spow sexpo
    rw [hs, e1, e2, word_val (k + 1) (by omega) (by omega), word_val (253 - k) (by omega) (by omega)]
    refine ⟨congrArg (fun n : ℤ => (((2 : ℝ) ^ n : ℝ) : EReal)) (by omega), congrArg (fun n : ℤ => (((2 : ℝ) ^ n : ℝ) : EReal)) (by omega)⟩

/-! ## The logistic function -/

/-- The kernel's spelling through `2 ^ (x · (-1 / ln 2))` is the reference's through `e ^ -x`. -/
theorem exp2_eq (x : EReal) : Ideal.exp2 (x * ((-((Real.log 2)⁻¹) : ℝ) : EReal)) = Ideal.exp (-x) := by
  have h2 : 0 < Real.log 2 := Real.log_pos (by norm_num)
  have hc : (-((Real.log 2)⁻¹) : ℝ) < 0 := by simpa using h2
  induction x with
  | bot => rw [EReal.bot_mul_coe_of_neg hc]; rfl
  | top => rw [EReal.top_mul_coe_of_neg hc]; rfl
  | coe r =>
    rw [← EReal.coe_mul, ← EReal.coe_neg]
    show ((Real.rpow 2 (r * -(Real.log 2)⁻¹) : ℝ) : EReal) = ((Real.exp (-r) : ℝ) : EReal)
    refine congrArg (fun t : ℝ => (t : EReal)) ?_
    show (2 : ℝ) ^ (r * -(Real.log 2)⁻¹) = _
    rw [Real.rpow_def_of_pos (by norm_num)]
    congr 1
    field_simp

/-- The logistic function is a real between 0 and 1. -/
theorem logistic_mem (x : EReal) : ∃ s : ℝ, 0 ≤ s ∧ s ≤ 1 ∧ Ideal.div 1 (1 + Ideal.exp (-x)) = (s : EReal) := by
  have key : ∀ t : ℝ, 0 ≤ t → Ideal.div 1 (1 + (t : EReal)) = (((1 + t)⁻¹ : ℝ) : EReal) := fun t ht => by
    have e : (1 : EReal) + (t : EReal) = ((1 + t : ℝ) : EReal) := by push_cast; rfl
    unfold Ideal.div
    rw [e, if_neg (by rw [EReal.coe_eq_zero]; positivity), ← EReal.coe_inv, one_mul]
  have fin : ∀ t : ℝ, 0 ≤ t → ∃ s : ℝ, 0 ≤ s ∧ s ≤ 1 ∧ Ideal.div 1 (1 + (t : EReal)) = (s : EReal) := fun t ht =>
    ⟨(1 + t)⁻¹, by positivity, inv_le_one_of_one_le₀ (by linarith), key t ht⟩
  induction x with
  | bot =>
    refine ⟨0, le_rfl, zero_le_one, ?_⟩
    show Ideal.div 1 (1 + ⊤) = _
    rw [EReal.add_top_of_ne_bot (by decide)]
    unfold Ideal.div
    rw [if_neg (by decide), EReal.inv_top]; simp
  | top => exact fin 0 le_rfl
  | coe r => exact fin (Real.exp (-r)) (Real.exp_pos _).le

/-! ## The bound the precondition gives -/

theorem max_val : Ideal.ofBits .f32 0x7F7FFFFF#32 ≤ (((2 : ℝ) ^ (128 : ℤ) : ℝ) : EReal) := by
  show Ideal.ieee 8 23 (0x7F7FFFFF#32 : BitVec 32) ≤ _
  have ha : ((0x7F7FFFFF#32 : BitVec 32).extractLsb' 23 8).toNat = 254 := by decide
  have hb : ((0x7F7FFFFF#32 : BitVec 32).extractLsb' 0 23).toNat = 8388607 := by decide
  have hc : ((0x7F7FFFFF#32 : BitVec 32).extractLsb' 31 1 == 1#1) = false := by decide
  unfold Ideal.ieee
  simp only [show (8 + 23 : ℕ) = 31 from rfl, ha, hb, hc]
  rw [if_neg (by norm_num), if_neg (by norm_num), EReal.coe_le_coe_iff]
  norm_num

theorem inv448_val : ∃ c : ℝ, 0 ≤ c ∧ c ≤ (2 : ℝ) ^ (-8 : ℤ) ∧ Ideal.ofBits .f32 0x3B124925#32 = (c : EReal) := by
  have ha : ((0x3B124925#32 : BitVec 32).extractLsb' 23 8).toNat = 118 := by decide
  have hb : ((0x3B124925#32 : BitVec 32).extractLsb' 0 23).toNat = 1198373 := by decide
  have hc : ((0x3B124925#32 : BitVec 32).extractLsb' 31 1 == 1#1) = false := by decide
  have e : Ideal.ieee 8 23 (0x3B124925#32 : BitVec 32) = (((1 : ℝ) * ((2 ^ 23 + 1198373 : ℕ) : ℝ) * (2 : ℝ) ^ ((118 : ℤ) - 127 - 23) : ℝ) : EReal) := by
    unfold Ideal.ieee
    simp only [show (8 + 23 : ℕ) = 31 from rfl, ha, hb, hc]
    rw [if_neg (by norm_num), if_neg (by norm_num)]
    norm_num
  refine ⟨_, ?_, ?_, e⟩
  · positivity
  · norm_num

/-- A product no larger than the largest float stays within `2 ^ 128` when a logistic factor is put in. -/
theorem act_bound (g u : EReal) (h : max (g * u) (-(g * u)) ≤ Ideal.ofBits .f32 0x7F7FFFFF#32) :
    max (g * Ideal.div 1 (1 + Ideal.exp (-g)) * u) (-(g * Ideal.div 1 (1 + Ideal.exp (-g)) * u)) ≤ (((2 : ℝ) ^ (128 : ℤ) : ℝ) : EReal) := by
  obtain ⟨s, s0, s1, hs⟩ := logistic_mem g
  have h' := h.trans max_val
  rw [hs, mul_assoc, mul_comm (s : EReal) u, ← mul_assoc]
  generalize g * u = z at h' ⊢
  induction z with
  | bot => exact absurd (le_trans (le_max_right _ _) h') (not_le.2 (by rw [EReal.neg_bot]; exact EReal.coe_lt_top _))
  | top => exact absurd (le_trans (le_max_left _ _) h') (not_le.2 (EReal.coe_lt_top _))
  | coe z =>
    rw [← EReal.coe_mul, ← EReal.coe_neg, max_le_iff, EReal.coe_le_coe_iff, EReal.coe_le_coe_iff]
    rw [← EReal.coe_neg, max_le_iff, EReal.coe_le_coe_iff, EReal.coe_le_coe_iff] at h'
    have hp : (0 : ℝ) < (2 : ℝ) ^ (128 : ℤ) := by positivity
    generalize (2 : ℝ) ^ (128 : ℤ) = M at h' hp ⊢
    constructor <;> nlinarith [h'.1, h'.2]

/-- So a group's largest magnitude, over 448, is below `2 ^ 126`. -/
theorem over_bound (f : Fin 128 → EReal) (z : EReal) (hz : z = ⊥) (h : ∀ l, f l ≤ (((2 : ℝ) ^ (128 : ℤ) : ℝ) : EReal)) :
    Finset.univ.fold max z f * Ideal.ofBits .f32 0x3B124925#32 < (((2 : ℝ) ^ (126 : ℤ) : ℝ) : EReal) := by
  obtain ⟨c, c0, c1, hc⟩ := inv448_val
  have hf : Finset.univ.fold max z f ≤ (((2 : ℝ) ^ (128 : ℤ) : ℝ) : EReal) :=
    (Finset.fold_max_le _).2 ⟨by rw [hz]; exact bot_le, fun l _ => h l⟩
  rw [hc]
  refine lt_of_le_of_lt (mul_le_mul_of_nonneg_right hf (by exact_mod_cast c0)) ?_
  rw [← EReal.coe_mul, EReal.coe_lt_coe_iff]
  calc (2 : ℝ) ^ (128 : ℤ) * c ≤ (2 : ℝ) ^ (128 : ℤ) * (2 : ℝ) ^ (-8 : ℤ) := mul_le_mul_of_nonneg_left c1 (by positivity)
    _ < (2 : ℝ) ^ (126 : ℤ) := by norm_num

theorem neg_inf_val : Ideal.ofBits .f32 0xFF800000#32 = (⊥ : EReal) := by
  show Ideal.ieee 8 23 (0xFF800000#32 : BitVec 32) = _
  have ha : ((0xFF800000#32 : BitVec 32).extractLsb' 23 8).toNat = 255 := by decide
  have hb : ((0xFF800000#32 : BitVec 32).extractLsb' 0 23).toNat = 0 := by decide
  have hc : ((0xFF800000#32 : BitVec 32).extractLsb' 31 1 == 1#1) = true := by decide
  unfold Ideal.ieee
  simp only [show (8 + 23 : ℕ) = 31 from rfl, ha, hb, hc]
  simp

/-- A sum against a one-hot column is the chosen entry. -/
theorem sum_onehot {n : ℕ} (w p : Fin n → EReal) (a : Fin n) (ha : p a = 1) (h0 : ∀ k, k ≠ a → p k = 0) :
    ∑ k, w k * p k = w a := by
  rw [Finset.sum_eq_single a (fun k _ hk => by rw [h0 k hk, mul_zero]) (fun h => absurd (Finset.mem_univ a) h), ha, mul_one]

end Cert.Scalars

end
-- ==== Proof.KernelRows.lean ====
module

public import proofs.«01_k».proof.Proof.Value
public import proofs.«01_k».proof.Proof.Scalars

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic

open Idealize.SL.Sem
open Cert.Scalars

/-! ## The block functions at an index, over the extended reals -/

/-- The named constant reads `-1 / ln 2`. -/
theorem named_val : (Named.named (F := Ideal) (φ := .f32) κ "neg_log2_e" 0xBFB8AA3B#32 : EReal) = ((-((Real.log 2)⁻¹) : ℝ) : EReal) :=
  IdealRules.named_const.ideal_named_scalar (φ := .f32) κ "neg_log2_e" 0xBFB8AA3B#32 _ rfl

/-- The kernel's exponent, element by element. -/
theorem fstep_at {s : Shape} (v : FVec Ideal s .f32) (n : IVec s 32) (b : BitVec 32) (i : s.Idx) :
    fstep v n b i = sstep (v i) (n i) b := by
  unfold sstep
  pointwise [fstep]

theorem field_at {s : Shape} (v : FVec Ideal s .f32) (i : s.Idx) : field v i = sfield (v i) := by
  unfold field sfield
  simp only [fstep_at]
  rfl

theorem expo_at {s : Shape} (v : FVec Ideal s .f32) (i : s.Idx) : expo v i = sexpo (v i) := by
  unfold sexpo
  rw [← field_at]
  unfold expo
  generalize field v = n
  rfl

/-- The kernel's power words, element by element. -/
theorem pow2_at {s : Shape} (e : IVec s 32) (i : s.Idx) : (pow2 (F := Ideal) e i : EReal) = spow (e i) := rfl

theorem pow_expo_at {s : Shape} (v : FVec Ideal s .f32) (i : s.Idx) : (pow2 (F := Ideal) (expo v) i : EReal) = spow (sexpo (v i)) :=
  (pow2_at _ i).trans (congrArg spow (expo_at v i))

theorem pow_neg_at {s : Shape} (v : FVec Ideal s .f32) (i : s.Idx) :
    (pow2 (F := Ideal) (subi (broadcast s 0#32) (expo v)) i : EReal) = spow (IntOp.subi 0#32 (sexpo (v i))) :=
  (pow2_at _ i).trans (congrArg (fun n => spow (IntOp.subi 0#32 n)) (expo_at v i))

/-- The activation of one pair. -/
def sact (g u : EReal) : EReal := g * Ideal.div 1 (1 + Ideal.exp (-g)) * u

/-- One activation of a group: of the two sums against the matrix's columns `l` and `128 + l`. -/
theorem pay2_at (p : Vec Ideal S256x256 .bf16) (w : Vec Ideal S1x256x256 .bf16) (r : Fin 256) (l : Fin 128) :
    (k0_pay2 p w (ix2 r l) : EReal) = sact (∑ x : Fin 256, (w (ix3 0 r x) : EReal) * p (ix2 x ⟨l.val, by omega⟩))
      (∑ x : Fin 256, (w (ix3 0 r x) : EReal) * p (ix2 x ⟨128 + l.val, by omega⟩)) := by
  pointwise [k0_pay2]
  rw [named_val]
  unfold sact
  rw [← exp2_eq]
  rfl

theorem pay3_at (p : Vec Ideal S256x256 .bf16) (w : Vec Ideal S1x256x256 .bf16) (r : Fin 256) :
    (k0_pay4 p w (ix2 r 0) : EReal) = Finset.univ.fold max (Ideal.ofBits .f32 0xFF800000#32) fun l : Fin 128 =>
      FloatOps.absf (F := Ideal) (φ := .f32) (k0_pay2 p w (ix2 r l)) := by
  pointwise [k0_pay4, k0_pay3]

theorem pay5_at (p : Vec Ideal S256x256 .bf16) (w : Vec Ideal S1x256x256 .bf16) (r : Fin 256) (l : Fin 128) :
    (k0_pay5 p w (ix2 r l) : EReal) = (k0_pay4 p w (ix2 r 0) : EReal) * Ideal.ofBits .f32 0x3B124925#32 := by
  rw [pay3_at]
  pointwise [k0_pay5, k0_pay3]

theorem pay76_at (t : Vec Ideal S128x128 .f32) (r : Fin 8) (l : Fin 128) :
    (k0_pay76 t (ix2 r l) : EReal) = (t (ix2 l ⟨r.val, by omega⟩) : EReal) * Ideal.ofBits .f32 0x3B124925#32 := by
  pointwise [k0_pay76]

theorem grpC_at (p : Vec Ideal S256x256 .bf16) (w : Vec Ideal S1x256x256 .bf16) (r : Fin 256) (l : Fin 128) :
    (grpC p w (ix3 0 r l) : EReal) = min (Ideal.ofBits .f32 0x43E00000#32) (max (Ideal.ofBits .f32 0xC3E00000#32)
      ((k0_pay2 p w (ix2 r l) : EReal) * spow (IntOp.subi 0#32 (sexpo (k0_pay5 p w (ix2 r l)))))) := by
  pointwise [grpC]
  rw [pow_neg_at]

theorem tileS_at (t : Vec Ideal S128x128 .f32) (r : Fin 8) (l : Fin 128) :
    (tileS t (ix3 0 r l) : EReal) = spow (sexpo (k0_pay76 t (ix2 r l))) := by
  unfold tileS
  rw [← pow_expo_at]
  generalize pow2 (F := Ideal) (expo (k0_pay76 t)) = e
  pointwise

end Cert.KernelIdeal.Hand

end
-- ==== Proof.RefRows.lean ====
/-
  The stages of the reference, read at an index over the extended reals.
-/
module

public import proofs.«01_k».proof.Proof.RefStages
public import Idealize.ShloMosaic.Lib.Pointwise

@[expose] public section

set_option maxRecDepth 16384
noncomputable section

namespace Cert.ReferenceIdeal.Hand

open Cert.ReferenceIdeal Cert.ReferenceIdeal.Gen
open Idealize.ShloMosaic Idealize.ShloMosaic.TcCoe Idealize.ShloMosaic.Tactic
open Idealize.SL.Sem

open Idealize.ShloMosaic.Pointwise

/-- A maximum over the last axis of a rank-3 array of any leading sizes. -/
theorem reduce_row (B R : ℕ) (y : FVec Ideal ⟨3, ![B, R, 128]⟩ .f32) (h : (⟨3, ![B, R, 128]⟩ : Shape).ReducesTo [2] ⟨2, ![B, R]⟩)
    (z : EReal) (hu : 0 < (⟨0, ![]⟩ : Shape).numel) (b : Fin B) (r : Fin R) :
    Host.reduce (u := ⟨0, ![]⟩) (t := ⟨2, ![B, R]⟩) (FloatOps.maximumf : Ideal .f32 → Ideal .f32 → Ideal .f32) y (fun _ => z) h hu (ix2 b r)
      = Finset.univ.fold max z fun l : Fin 128 => y (ix3 b r l) := by
  simp only [pointwise]

/-- The largest magnitude of a group. -/
theorem largest_at (y : FVec Ideal S72x8192x128 .f32) (b : Fin 72) (r : Fin 8192) :
    largest y (ix2 b r) = Finset.univ.fold max (Ideal.ofBits .f32 0xFF800000#32) fun l : Fin 128 => FloatOps.absf (F := Ideal) (φ := .f32) (y (ix3 b r l)) :=
  reduce_row 72 8192 (Host.absf y) reducesTo_S72x8192x128_S72x8192_d2 _ h_S_ b r

/-- The ratio of a group. -/
theorem over_at (a : FVec Ideal S72x8192 .f32) (b : Fin 72) (r : Fin 8192) :
    over a (ix2 b r) = (a (ix2 b r) * Ideal.ofBits .f32 0x3B124925#32 : EReal) := by
  pointwise [over]

/-- The exponent of a group. -/
theorem exponent_at (v : FVec Ideal S72x8192 .f32) (b : Fin 72) (r : Fin 8192) :
    exponent v (ix2 b r) = (if v (ix2 b r) < Ideal.ofBits .f32 0x00800000#32 then 0 else
      Ideal.liftRound Int.floor (Ideal.div (Ideal.log (v (ix2 b r))) (Ideal.log (Ideal.ofBits .f32 0x40000000#32))) + 1 : EReal) := by
  have hz : (id (constant S_ .f32 0x00000000#32) : FVec Ideal S_ .f32) ix0 = (0 : EReal) := by
    simp only [id]; pointwise
  pointwise [exponent]
  rw [hz]

/-- A scale, by token and group. -/
theorem powers_at (e : FVec Ideal S72x8192 .f32) (b : Fin 72) (r : Fin 1024) (g : Fin 8) :
    powers e (ix3 b r g) = Ideal.pow (Ideal.ofBits .f32 0x40000000#32) (e (ix2 b ⟨r.val * 8 + g.val, by omega⟩)) := by
  pointwise [powers, two]

/-- A code, by token and feature. -/
theorem quantise_at (y : FVec Ideal S72x8192x128 .f32) (e : FVec Ideal S72x8192 .f32) (b : Fin 72) (r : Fin 1024) (l : Fin 1024) :
    quantise y e (ix3 b r l) = (min (Ideal.ofBits .f32 0x43E00000#32) (max (Ideal.ofBits .f32 0xC3E00000#32)
      (y (ix3 b ⟨r.val * 8 + l.val / 128, by omega⟩ ⟨l.val % 128, by omega⟩)
        * Ideal.pow (Ideal.ofBits .f32 0x40000000#32) (-e (ix2 b ⟨r.val * 8 + l.val / 128, by omega⟩)))) : EReal) := by
  pointwise [quantise, two]
  rfl

/-- An activation: of the pair at features `256 g + 2 l`, `256 g + 2 l + 1` of token `r`, at group row `8 r + g`. -/
theorem act_at (x : Vec Ideal S72x1024x2048 .bf16) (b : Fin 72) (r : Fin 8192) (l : Fin 128) :
    act x (ix3 b r l) = (x (ix3 b ⟨r.val / 8, by omega⟩ ⟨r.val % 8 * 256 + l.val * 2, by omega⟩)
        * Ideal.div 1 (1 + Ideal.exp (-x (ix3 b ⟨r.val / 8, by omega⟩ ⟨r.val % 8 * 256 + l.val * 2, by omega⟩)))
        * x (ix3 b ⟨r.val / 8, by omega⟩ ⟨r.val % 8 * 256 + l.val * 2 + 1, by omega⟩) : EReal) := by
  pointwise [act, gate, up, pairs]

end Cert.ReferenceIdeal.Hand

end
-- ==== Proof.Domain.lean ====
/-
  What the precondition says of the input: no product of a gate and its up exceeds the largest f32.
-/
module

public import proofs.«01_k».proof.Pre_no_overflow
public import proofs.«01_k».proof.Proof.RefRows
public import Idealize.ShloMosaic.Lib.ReduceAll

@[expose] public section

set_option maxRecDepth 16384
noncomputable section

namespace Cert.Pre_no_overflow.Hand

open Idealize.ShloMosaic Idealize.ShloMosaic.TcCoe Idealize.ShloMosaic.Tactic
open Cert.Pre_no_overflow
open Idealize.ShloMosaic.Pointwise

/-- The side conditions the precondition's operations state. -/
instance facts : Cert.Pre_no_overflow.Facts where
  shapeCasts_S72x1024x2048_S72x8192x128x2 := by decide
  slices_S72x8192x128x2_S72x8192x128x1_0_0_0_0 := by decide
  shapeCasts_S72x8192x128x1_S72x8192x128 := by decide
  bitsLt_bf16_f32 := by decide
  slices_S72x8192x128x2_S72x8192x128x1_0_0_0_1 := by decide
  bcast_S_S72x8192x128 := by decide
  reducesTo_S72x8192x128_S_d0_1_2 := by decide
  h_S_ := by decide

instance : Subsingleton S_.Idx := ⟨fun a b => funext fun k => k.elim0⟩

/-- One comparison read back. -/
theorem le_of_cmp (y : FVec Ideal S72x8192x128 .f32) (b : Fin 72) (r : Fin 8192) (l : Fin 128)
    (h : cmpf .ole (Host.absf y) (broadcastInDim S72x8192x128 ![] facts.bcast_S_S72x8192x128 (constant S_ .f32 0x7F7FFFFF#32)) (ix3 b r l) = 1#1) :
    (max (y (ix3 b r l)) (-(y (ix3 b r l))) : EReal) ≤ Ideal.ofBits .f32 0x7F7FFFFF#32 := by
  have h' : BitVec.ofBool (decide ((max (y (ix3 b r l)) (-(y (ix3 b r l))) : EReal) ≤ Ideal.ofBits .f32 0x7F7FFFFF#32)) = 1#1 := by
    refine Eq.trans ?_ h
    pointwise
    rfl
  by_contra hc
  rw [decide_eq_false hc] at h'
  exact absurd h' (by decide)

theorem reduce_row (p : IVec S72x8192x128 1) (h : Host.reduce IntOp.andi p (constantI S_ 1 1#1) facts.reducesTo_S72x8192x128_S_d0_1_2 facts.h_S_ ix0 = 1#1)
    (i : S72x8192x128.Idx) : p i = 1#1 := Host.reduce_andi_all p _ _ _ _ h i

/-- The products of the groups' pairs, as the precondition spells them. -/
theorem product_at (x : Vec Ideal S72x1024x2048 .bf16) (b : Fin 72) (r : Fin 8192) (l : Fin 128) :
    (mulf (F := Ideal) (φ := .f32) (Cert.ReferenceIdeal.Hand.gate x) (Cert.ReferenceIdeal.Hand.up x) (ix3 b r l) : EReal)
      = x (ix3 b ⟨r.val / 8, by omega⟩ ⟨r.val % 8 * 256 + l.val * 2, by omega⟩)
        * x (ix3 b ⟨r.val / 8, by omega⟩ ⟨r.val % 8 * 256 + l.val * 2 + 1, by omega⟩) := by
  pointwise [Cert.ReferenceIdeal.Hand.gate, Cert.ReferenceIdeal.Hand.up, Cert.ReferenceIdeal.Hand.pairs]

/-- Under the precondition every product is within f32's range. -/
theorem in_range (x : Vec Ideal S72x1024x2048 .bf16) (h : fn (F := Ideal) x = fun _ => 1#1) (b : Fin 72) (r : Fin 8192) (l : Fin 128) :
    (max (x (ix3 b ⟨r.val / 8, by omega⟩ ⟨r.val % 8 * 256 + l.val * 2, by omega⟩)
        * x (ix3 b ⟨r.val / 8, by omega⟩ ⟨r.val % 8 * 256 + l.val * 2 + 1, by omega⟩))
      (-(x (ix3 b ⟨r.val / 8, by omega⟩ ⟨r.val % 8 * 256 + l.val * 2, by omega⟩)
        * x (ix3 b ⟨r.val / 8, by omega⟩ ⟨r.val % 8 * 256 + l.val * 2 + 1, by omega⟩))) : EReal) ≤ Ideal.ofBits .f32 0x7F7FFFFF#32 := by
  have h0 := congrFun h ix0
  dsimp only [fn] at h0
  have h1 := le_of_cmp (mulf (F := Ideal) (φ := .f32) (Cert.ReferenceIdeal.Hand.gate x) (Cert.ReferenceIdeal.Hand.up x)) b r l (reduce_row _ h0 (ix3 b r l))
  rw [product_at] at h1
  exact h1

end Cert.Pre_no_overflow.Hand

end
-- ==== Proof.Agree.lean ====
module

public import proofs.«01_k».proof.Proof.KernelRows
public import proofs.«01_k».proof.Proof.Domain

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic

open Idealize.SL.Sem
open Cert.Scalars

/-! ## The kernel's results at an index, over the extended reals, as the reference's -/

/-- The matrix picks, for column `j`, feature `2 (j mod 128) + j / 128`. -/
def Picks : Prop := ∀ k j : Fin 256, (perm (F := Ideal) (ix2 k j) : EReal) = if k.val = 2 * (j.val % 128) + j.val / 128 then 1 else 0

/-- A sum against a column of the matrix is the picked element. -/
theorem sum_pick (hp : Picks) (f : Fin 256 → EReal) (j a : Fin 256) (ha : a.val = 2 * (j.val % 128) + j.val / 128) :
    ∑ k : Fin 256, f k * (perm (F := Ideal) (ix2 k j) : EReal) = f a := by
  refine sum_onehot f (fun k => (perm (F := Ideal) (ix2 k j) : EReal)) a ?_ ?_
  · show (perm (F := Ideal) (ix2 a j) : EReal) = 1
    rw [hp, if_pos ha]
  · intro k hk
    show (perm (F := Ideal) (ix2 k j) : EReal) = 0
    rw [hp, if_neg]
    intro h
    exact hk (Fin.ext (h.trans ha.symm))

/-- One element of a window of 256 tokens by 256 features. -/
theorem win_at (x : Vec Ideal S72x1024x2048 .bf16) (b : Fin 72) (R : Fin 1024) (g : Fin 8) (k : Fin 256) (n : Fin 2048) (hn : n.val = 256 * g.val + k.val) :
    win (xrow x b) (R.val / 256) g.val (ix3 0 ⟨R.val % 256, Nat.mod_lt _ (by decide)⟩ k) = x (ix3 b R n) := by
  unfold win xrow
  congr 1
  funext a
  apply Fin.ext
  match a with
  | ⟨0, _⟩ => rfl
  | ⟨1, _⟩ => show (256 * (R.val / 256) + R.val % 256) % 1024 = R.val; omega
  | ⟨2, _⟩ => show (256 * g.val + k.val) % 2048 = n.val; omega

/-- The group row of token `R`, group `g`. -/
def grow (R : Fin 1024) (g : Fin 8) : Fin 8192 := ⟨R.val * 8 + g.val, by omega⟩

/-- The kernel's activations are the reference's. -/
theorem y_at (hp : Picks) (x : Vec Ideal S72x1024x2048 .bf16) (b : Fin 72) (R : Fin 1024) (g : Fin 8) (l : Fin 128) :
    (k0_pay2 perm (win (xrow x b) (R.val / 256) g.val) (ix2 ⟨R.val % 256, Nat.mod_lt _ (by decide)⟩ l) : EReal)
      = Cert.ReferenceIdeal.Hand.act x (ix3 b (grow R g) l) := by
  rw [pay2_at, Cert.ReferenceIdeal.Hand.act_at]
  rw [sum_pick hp (fun k => (win (xrow x b) (R.val / 256) g.val (ix3 0 ⟨R.val % 256, Nat.mod_lt _ (by decide)⟩ k) : EReal)) ⟨l.val, by omega⟩ ⟨2 * l.val, by omega⟩ (by show 2 * l.val = 2 * (l.val % 128) + l.val / 128; omega),
    sum_pick hp (fun k => (win (xrow x b) (R.val / 256) g.val (ix3 0 ⟨R.val % 256, Nat.mod_lt _ (by decide)⟩ k) : EReal)) ⟨128 + l.val, by omega⟩ ⟨2 * l.val + 1, by omega⟩ (by show 2 * l.val + 1 = 2 * ((128 + l.val) % 128) + (128 + l.val) / 128; omega)]
  have e0 : (ix3 b R ⟨256 * g.val + 2 * l.val, by omega⟩ : S72x1024x2048.Idx)
      = ix3 b (⟨(grow R g).val / 8, by omega⟩ : Fin 1024) (⟨(grow R g).val % 8 * 256 + l.val * 2, by omega⟩ : Fin 2048) := by
    funext a
    apply Fin.ext
    match a with
    | ⟨0, _⟩ => rfl
    | ⟨1, _⟩ => show R.val = (R.val * 8 + g.val) / 8; omega
    | ⟨2, _⟩ => show 256 * g.val + 2 * l.val = (R.val * 8 + g.val) % 8 * 256 + l.val * 2; omega
  have e1 : (ix3 b R ⟨256 * g.val + 2 * l.val + 1, by omega⟩ : S72x1024x2048.Idx)
      = ix3 b (⟨(grow R g).val / 8, by omega⟩ : Fin 1024) (⟨(grow R g).val % 8 * 256 + l.val * 2 + 1, by omega⟩ : Fin 2048) := by
    funext a
    apply Fin.ext
    match a with
    | ⟨0, _⟩ => rfl
    | ⟨1, _⟩ => show R.val = (R.val * 8 + g.val) / 8; omega
    | ⟨2, _⟩ => show 256 * g.val + 2 * l.val + 1 = (R.val * 8 + g.val) % 8 * 256 + l.val * 2 + 1; omega
  rw [win_at x b R g ⟨2 * l.val, by omega⟩ ⟨256 * g.val + 2 * l.val, by omega⟩ rfl,
    win_at x b R g ⟨2 * l.val + 1, by omega⟩ ⟨256 * g.val + 2 * l.val + 1, by omega⟩ rfl]
  rw [e0, e1]
  rfl

/-- The kernel's row maxima are the reference's. -/
theorem a_at (hp : Picks) (x : Vec Ideal S72x1024x2048 .bf16) (b : Fin 72) (R : Fin 1024) (g : Fin 8) :
    (k0_pay4 perm (win (xrow x b) (R.val / 256) g.val) (ix2 ⟨R.val % 256, Nat.mod_lt _ (by decide)⟩ 0) : EReal)
      = Cert.ReferenceIdeal.Hand.largest (Cert.ReferenceIdeal.Hand.act x) (ix2 b (grow R g)) := by
  rw [pay3_at]
  simp only [y_at hp]
  generalize Cert.ReferenceIdeal.Hand.act x = y
  exact (Cert.ReferenceIdeal.Hand.largest_at y b (grow R g)).symm

/-- A group's ratio. -/
def ratioAt (x : Vec Ideal S72x1024x2048 .bf16) (b : Fin 72) (r : Fin 8192) : EReal :=
  Cert.ReferenceIdeal.Hand.over (Cert.ReferenceIdeal.Hand.largest (Cert.ReferenceIdeal.Hand.act x)) (ix2 b r)

theorem v_at (hp : Picks) (x : Vec Ideal S72x1024x2048 .bf16) (b : Fin 72) (R : Fin 1024) (g : Fin 8) (l : Fin 128) :
    (k0_pay5 perm (win (xrow x b) (R.val / 256) g.val) (ix2 ⟨R.val % 256, Nat.mod_lt _ (by decide)⟩ l) : EReal) = ratioAt x b (grow R g) := by
  rw [pay5_at, a_at hp]
  unfold ratioAt
  generalize Cert.ReferenceIdeal.Hand.largest (Cert.ReferenceIdeal.Hand.act x) = a
  exact (Cert.ReferenceIdeal.Hand.over_at a b (grow R g)).symm

/-- Under the precondition a ratio is below `2 ^ 126`. -/
theorem ratio_lt (x : Vec Ideal S72x1024x2048 .bf16) (h : Cert.Pre_no_overflow.fn (F := Ideal) x = fun _ => 1#1) (b : Fin 72) (r : Fin 8192) :
    ratioAt x b r < (((2 : ℝ) ^ (126 : ℤ) : ℝ) : EReal) := by
  have hy : ∀ l : Fin 128, FloatOps.absf (F := Ideal) (φ := .f32) (Cert.ReferenceIdeal.Hand.act x (ix3 b r l)) ≤ (((2 : ℝ) ^ (128 : ℤ) : ℝ) : EReal) := by
    intro l
    rw [Cert.ReferenceIdeal.Hand.act_at]
    exact act_bound _ _ (Cert.Pre_no_overflow.Hand.in_range x h b r l)
  unfold ratioAt
  generalize Cert.ReferenceIdeal.Hand.act x = y at hy ⊢
  have e : Cert.ReferenceIdeal.Hand.over (Cert.ReferenceIdeal.Hand.largest y) (ix2 b r)
      = ((Finset.univ.fold max (Ideal.ofBits .f32 0xFF800000#32) fun l : Fin 128 => FloatOps.absf (F := Ideal) (φ := .f32) (y (ix3 b r l))) * Ideal.ofBits .f32 0x3B124925#32 : EReal) := by
    have e1 := Cert.ReferenceIdeal.Hand.largest_at y b r
    generalize Cert.ReferenceIdeal.Hand.largest y = a at e1 ⊢
    rw [Cert.ReferenceIdeal.Hand.over_at, e1]
  rw [e]
  exact over_bound _ _ neg_inf_val hy

/-- The kernel's codes are the reference's. -/
theorem codes_eq (hp : Picks) (x : Vec Ideal S72x1024x2048 .bf16) (h : Cert.Pre_no_overflow.fn (F := Ideal) x = fun _ => 1#1) :
    codesOf x = Cert.ReferenceIdeal.Hand.codes x := by
  funext i
  obtain ⟨b, R, C, rfl⟩ : ∃ (b : Fin 72) (R : Fin 1024) (C : Fin 1024), i = ix3 b R C := ⟨i 0, i 1, i 2, by
    funext a
    match a with
    | ⟨0, _⟩ => rfl
    | ⟨1, _⟩ => rfl
    | ⟨2, _⟩ => rfl⟩
  have hC : C.val / 128 < 8 := by omega
  have hv := ratio_lt x h b (grow R ⟨C.val / 128, hC⟩)
  have e1 : codesOf x (ix3 b R C) = grpC perm (win (xrow x b) (R.val / 256) (C.val / 128))
      (ix3 (0 : Fin 1) (⟨R.val % 256, Nat.mod_lt _ (by decide)⟩ : Fin 256) (⟨C.val % 128, Nat.mod_lt _ (by decide)⟩ : Fin 128)) := rfl
  refine e1.trans ((grpC_at _ _ _ _).trans ?_)
  have ey := y_at hp x b R ⟨C.val / 128, hC⟩ ⟨C.val % 128, Nat.mod_lt _ (by decide)⟩
  have ev := v_at hp x b R ⟨C.val / 128, hC⟩ ⟨C.val % 128, Nat.mod_lt _ (by decide)⟩
  dsimp only at ey ev
  rw [ey, ev, (pow_ok _ hv).2]
  unfold Cert.ReferenceIdeal.Hand.codes
  refine Eq.trans ?_ (Cert.ReferenceIdeal.Hand.quantise_at _ _ b R C).symm
  have ee : rexp (ratioAt x b (grow R ⟨C.val / 128, hC⟩))
      = Cert.ReferenceIdeal.Hand.exponent (Cert.ReferenceIdeal.Hand.over (Cert.ReferenceIdeal.Hand.largest (Cert.ReferenceIdeal.Hand.act x))) (ix2 b (grow R ⟨C.val / 128, hC⟩)) := by
    unfold ratioAt
    generalize Cert.ReferenceIdeal.Hand.over (Cert.ReferenceIdeal.Hand.largest (Cert.ReferenceIdeal.Hand.act x)) = v
    exact (Cert.ReferenceIdeal.Hand.exponent_at v b _).symm
  rw [ee]
  generalize Cert.ReferenceIdeal.Hand.exponent (Cert.ReferenceIdeal.Hand.over (Cert.ReferenceIdeal.Hand.largest (Cert.ReferenceIdeal.Hand.act x))) = e
  generalize Cert.ReferenceIdeal.Hand.act x = y
  rfl

/-- The kernel's scales, transposed, are the reference's. -/
theorem scales_eq (hp : Picks) (x : Vec Ideal S72x1024x2048 .bf16) (h : Cert.Pre_no_overflow.fn (F := Ideal) x = fun _ => 1#1) :
    transpose S72x1024x8 [0, 2, 1] (scalesOf x) transposes_S72x8x1024_S72x1024x8_0_2_1 = Cert.ReferenceIdeal.Hand.scales x := by
  funext i
  obtain ⟨b, R, g, rfl⟩ : ∃ (b : Fin 72) (R : Fin 1024) (g : Fin 8), i = ix3 b R g := ⟨i 0, i 1, i 2, by
    funext a
    match a with
    | ⟨0, _⟩ => rfl
    | ⟨1, _⟩ => rfl
    | ⟨2, _⟩ => rfl⟩
  have hv := ratio_lt x h b (grow R g)
  have e0 : transpose S72x1024x8 [0, 2, 1] (scalesOf x) transposes_S72x8x1024_S72x1024x8_0_2_1 (ix3 b R g) = scalesOf x (ix3 b g R) := by
    generalize scalesOf x = s
    pointwise
  have e1 : scalesOf x (ix3 b g R) = tileS (awin (aBlk (xrow x b) perm) (R.val / 128))
      (ix3 (0 : Fin 1) g (⟨R.val % 128, Nat.mod_lt _ (by decide)⟩ : Fin 128)) := rfl
  refine e0.trans (e1.trans ((tileS_at _ _ _).trans ?_))
  have ea : (awin (aBlk (xrow x b) perm) (R.val / 128) (ix2 (⟨R.val % 128, Nat.mod_lt _ (by decide)⟩ : Fin 128) (⟨g.val, by omega⟩ : Fin 128)) : EReal)
      = Cert.ReferenceIdeal.Hand.largest (Cert.ReferenceIdeal.Hand.act x) (ix2 b (grow R g)) := by
    refine Eq.trans ?_ (a_at hp x b R g)
    have hR : (128 * (R.val / 128) + R.val % 128) % 1024 = R.val := by omega
    unfold awin aBlk grpA
    dsimp only [ix2]
    show k0_pay4 perm (win (xrow x b) ((128 * (R.val / 128) + R.val % 128) % 1024 / 256) g.val)
      (ix2 ⟨(128 * (R.val / 128) + R.val % 128) % 1024 % 256, Nat.mod_lt _ (by decide)⟩ 0) = _
    simp only [hR]
  have ev : (k0_pay76 (awin (aBlk (xrow x b) perm) (R.val / 128)) (ix2 g (⟨R.val % 128, Nat.mod_lt _ (by decide)⟩ : Fin 128)) : EReal) = ratioAt x b (grow R g) := by
    rw [pay76_at, ea]
    unfold ratioAt
    generalize Cert.ReferenceIdeal.Hand.largest (Cert.ReferenceIdeal.Hand.act x) = a
    exact (Cert.ReferenceIdeal.Hand.over_at a b (grow R g)).symm
  rw [ev, (pow_ok _ hv).1]
  have ee : rexp (ratioAt x b (grow R g))
      = Cert.ReferenceIdeal.Hand.exponent (Cert.ReferenceIdeal.Hand.over (Cert.ReferenceIdeal.Hand.largest (Cert.ReferenceIdeal.Hand.act x))) (ix2 b (grow R g)) := by
    unfold ratioAt
    generalize Cert.ReferenceIdeal.Hand.over (Cert.ReferenceIdeal.Hand.largest (Cert.ReferenceIdeal.Hand.act x)) = v
    exact (Cert.ReferenceIdeal.Hand.exponent_at v b _).symm
  rw [ee]
  unfold Cert.ReferenceIdeal.Hand.scales
  generalize Cert.ReferenceIdeal.Hand.exponent (Cert.ReferenceIdeal.Hand.over (Cert.ReferenceIdeal.Hand.largest (Cert.ReferenceIdeal.Hand.act x))) = e
  exact (Cert.ReferenceIdeal.Hand.powers_at e b R g).symm

end Cert.KernelIdeal.Hand

end
-- ==== Proof.Perm.lean ====
module

public import proofs.«01_k».proof.Proof.TableAll
public import proofs.«01_k».proof.Proof.Agree

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic

open Cert.Scalars

/-! ## The permutation matrix at an index -/

theorem one_val : Ideal.ofBits .bf16 0x3F80#16 = (1 : EReal) := by
  show Ideal.ieee 8 7 (0x3F80#16 : BitVec 16) = _
  have ha : ((0x3F80#16 : BitVec 16).extractLsb' 7 8).toNat = 127 := by decide
  have hb : ((0x3F80#16 : BitVec 16).extractLsb' 0 7).toNat = 0 := by decide
  have hc : ((0x3F80#16 : BitVec 16).extractLsb' 15 1 == 1#1) = false := by decide
  unfold Ideal.ieee
  simp only [show (8 + 7 : ℕ) = 15 from rfl, ha, hb, hc]
  norm_num

theorem zero_val : Ideal.ofBits .bf16 0x0000#16 = (0 : EReal) := by
  show Ideal.ieee 8 7 (0x0000#16 : BitVec 16) = _
  have ha : ((0x0000#16 : BitVec 16).extractLsb' 7 8).toNat = 0 := by decide
  have hb : ((0x0000#16 : BitVec 16).extractLsb' 0 7).toNat = 0 := by decide
  unfold Ideal.ieee
  simp only [ha, hb]
  norm_num

/-- A literal table's entry at a row-major position. -/
theorem entry (t : Nat → BitVec 16) (lit : Fin 65536 → BitVec 16) (h : ∀ i, lit i = t i.val) (k j : Fin 256) :
    lit (S256x256.rowMajor (ix2 k j)) = t (k.val * 256 + j.val) := by
  refine (h _).trans (congrArg t ?_)
  rw [show (S256x256.rowMajor (ix2 k j)).val = _ from Shape.rowMajor_val_two (d := ![256, 256]) (ix2 k j)]
  rfl

/-- Column `j` of the matrix picks feature `2 (j mod 128) + j / 128`. -/
theorem picks : Picks := by
  intro k j
  have e : perm (F := Ideal) (ix2 k j) = Ideal.ofBits .bf16 (lit0t (k.val * 256 + j.val)) :=
    congrArg (fun w => Ideal.ofBits .bf16 w) (entry lit0t lit0 (fun _ => rfl) k j)
  rw [e, lit0t_at k.val j.val k.isLt j.isLt]
  by_cases h : k.val = 2 * (j.val % 128) + j.val / 128
  · rw [if_pos h, if_pos h, one_val]
  · rw [if_neg h, if_neg h, zero_val]

end Cert.KernelIdeal.Hand

end
-- ==== Proof.lean ====
/-
  The proof of `Cert.Claim`: the frames (of the kernel at the bit level, of its idealization and of the reference, each off
  its run), the one named constant, and the equality of the two programs' results
  over the extended reals.
-/
module

public import proofs.«01_k».proof.Defs
public import proofs.«01_k».proof.Proof.Frame
public import proofs.«01_k».proof.Proof.RefValue
public import proofs.«01_k».proof.Proof.Perm

@[expose] public section

namespace Cert.Proof

open Idealize.ShloMosaic Idealize.ShloMosaic.TcCoe Idealize.SL.Sem

theorem frame_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run _ _ _).mono (fun r h => ⟨fun c => (h.1 c).2.2, h.2⟩) (Cert.KernelIdeal.Hand.run m g)

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h.1 c).2.2, h.2⟩) (Cert.ReferenceIdeal.Hand.run m g)

/-- The named constant is the one the ideal pass put in the literal's place. -/
theorem preserves : Cert.preserves_Kernel_KernelIdeal :=
  IdealRules.named_const.statement Cert.KernelIdeal.κ "neg_log2_e" .f32 0xBFB8AA3B#32 ((-((Real.log 2)⁻¹) : ℝ) : EReal) rfl

/-- From inputs within range both programs end with the same codes and the same scales. -/
theorem algebraic : Cert.algebraic_KernelIdeal_ReferenceIdeal_pre_no_overflow := by
  intro m g m' g' hpre harg
  refine ⟨fun c => Cert.ReferenceIdeal.Hand.codes (m ((c.tc : Thread Cert.KernelIdeal.nD Cert.KernelIdeal.τ).loc Cert.KernelIdeal.main_arg0)),
    fun c => Cert.ReferenceIdeal.Hand.scales (m ((c.tc : Thread Cert.KernelIdeal.nD Cert.KernelIdeal.τ).loc Cert.KernelIdeal.main_arg0)), ?_, ?_⟩
  · refine (θ_run _ _ _).mono (fun r h c => ⟨(h.1 c).1.trans ?_, (h.1 c).2.1.trans ?_, (h.1 c).2.2⟩) (Cert.KernelIdeal.Hand.run m g)
    · exact Cert.KernelIdeal.Hand.codes_eq Cert.KernelIdeal.Hand.picks _ (hpre c)
    · exact Cert.KernelIdeal.Hand.scales_eq Cert.KernelIdeal.Hand.picks _ (hpre c)
  · refine (θ_run _ _ _).mono (fun r h c => ⟨(h.1 c).1.trans ?_, (h.1 c).2.1.trans ?_, (h.1 c).2.2⟩) (Cert.ReferenceIdeal.Hand.run m' g')
    · exact congrArg Cert.ReferenceIdeal.Hand.codes (harg c)
    · exact congrArg Cert.ReferenceIdeal.Hand.scales (harg c)

theorem claim : Cert.Claim :=
  ⟨Cert.Kernel.Gen.facts, Cert.KernelIdeal.Gen.facts, Cert.ReferenceIdeal.Gen.facts, Cert.Pre_no_overflow.Hand.facts,
    fun m g _ => Cert.Kernel.Hand.frame m g, fun m g _ => frame_kernel m g, fun m g _ => frame_kernel m g,
    fun m g _ => frame_reference m g, fun m g _ => frame_reference m g, preserves, algebraic⟩

end Cert.Proof
